-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_inputs [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_inputs [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_KernelIdeal_pre_finite_inputs [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_inputs m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_ReferenceIdeal_pre_finite_inputs [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_inputs m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def preserves_Kernel_KernelIdeal : Prop :=
  True

def algebraic_KernelIdeal_ReferenceIdeal_pre_finite_inputs [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_inputs m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v4_0)) (v1 : (c : Dev Cert.KernelIdeal.nD) → Buf (Elt Ideal) ((c.tc : Thread Cert.KernelIdeal.nD Cert.KernelIdeal.τ).loc Cert.KernelIdeal.main_v4_1)) (v2 : (c : Dev Cert.KernelIdeal.nD) → Buf (Elt Ideal) ((c.tc : Thread Cert.KernelIdeal.nD Cert.KernelIdeal.τ).loc Cert.KernelIdeal.main_v4_2)) (v3 : (c : Dev Cert.KernelIdeal.nD) → Buf (Elt Ideal) ((c.tc : Thread Cert.KernelIdeal.nD Cert.KernelIdeal.τ).loc Cert.KernelIdeal.main_v4_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4_0) = v0 c
          ∧ r.2.mem ((c.tc : Thread Cert.KernelIdeal.nD Cert.KernelIdeal.τ).loc Cert.KernelIdeal.main_v4_1) = v1 c
          ∧ r.2.mem ((c.tc : Thread Cert.KernelIdeal.nD Cert.KernelIdeal.τ).loc Cert.KernelIdeal.main_v4_2) = v2 c
          ∧ r.2.mem ((c.tc : Thread Cert.KernelIdeal.nD Cert.KernelIdeal.τ).loc Cert.KernelIdeal.main_v4_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v108) = v0 c
          ∧ r.2.mem ((c.tc : Thread Cert.ReferenceIdeal.nD Cert.ReferenceIdeal.τ).loc Cert.ReferenceIdeal.main_v109) = v1 c
          ∧ r.2.mem ((c.tc : Thread Cert.ReferenceIdeal.nD Cert.ReferenceIdeal.τ).loc Cert.ReferenceIdeal.main_v110) = v2 c
          ∧ r.2.mem ((c.tc : Thread Cert.ReferenceIdeal.nD Cert.ReferenceIdeal.τ).loc Cert.ReferenceIdeal.main_v111) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    quiescent_Kernel (hKernel := hKernel)
    ∧ quiescent_KernelIdeal (hKernelIdeal := hKernelIdeal)
    ∧ quiescent_KernelIdeal_pre_finite_inputs (hKernelIdeal := hKernelIdeal) (hPre_finite_inputs := hPre_finite_inputs)
    ∧ quiescent_ReferenceIdeal (hReferenceIdeal := hReferenceIdeal)
    ∧ quiescent_ReferenceIdeal_pre_finite_inputs (hReferenceIdeal := hReferenceIdeal) (hPre_finite_inputs := hPre_finite_inputs)
    ∧ preserves_Kernel_KernelIdeal
    ∧ algebraic_KernelIdeal_ReferenceIdeal_pre_finite_inputs (hKernelIdeal := hKernelIdeal) (hReferenceIdeal := hReferenceIdeal) (hPre_finite_inputs := hPre_finite_inputs)
-- ==== Pre_finite_inputs.lean ====
abbrev S8x4096x128 : Shape := ⟨3, ![8, 4096, 128]⟩
abbrev S8x4096 : Shape := ⟨2, ![8, 4096]⟩
abbrev S1x1x128 : Shape := ⟨3, ![1, 1, 128]⟩
abbrev S128x128 : Shape := ⟨2, ![128, 128]⟩
abbrev S64x128x128 : Shape := ⟨3, ![64, 128, 128]⟩
abbrev S1x64x128x128 : Shape := ⟨4, ![1, 64, 128, 128]⟩
abbrev S128 : Shape := ⟨1, ![128]⟩
abbrev S_ : Shape := ⟨0, ![]⟩

class Facts : Prop where
  bcast_S_S8x4096x128 : S_.BroadcastsInDim S8x4096x128 (![] : Fin 0 → Fin S8x4096x128.rank)
  reducesTo_S8x4096x128_S_d0_1_2 : S8x4096x128.ReducesTo [0, 1, 2] S_
  h_S_ : 0 < S_.numel
  bcast_S_S1x1x128 : S_.BroadcastsInDim S1x1x128 (![] : Fin 0 → Fin S1x1x128.rank)
  reducesTo_S1x1x128_S_d0_1_2 : S1x1x128.ReducesTo [0, 1, 2] S_
  bcast_S_S128x128 : S_.BroadcastsInDim S128x128 (![] : Fin 0 → Fin S128x128.rank)
  reducesTo_S128x128_S_d0_1 : S128x128.ReducesTo [0, 1] S_

variable [Facts]

def fn_part1 {F : FTy → Type} [FloatOps F] (main_arg5 : FVec F S128x128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  main_v23

def fn {F : FTy → Type} [FloatOps F] (main_arg0 : FVec F S8x4096x128 .f32) (main_arg1 : FVec F S8x4096 .f32) (main_arg2 : FVec F S1x1x128 .f32) (main_arg3 : FVec F S128x128 .f32) (main_arg4 : FVec F S128x128 .f32) (main_arg5 : FVec F S128x128 .f32) (main_arg6 : FVec F S64x128x128 .f32) (main_arg7 : FVec F S1x64x128x128 .f32) (main_arg8 : FVec F S128 .f32) (main_arg9 : FVec F S128 .f32) : IVec S_ 1 :=
  let main_v0 : FVec F S8x4096x128 .f32 := Host.absf main_arg0
  let main_cst : FVec F S_ .f32 := constant S_ .f32 0x7F800000#32
  let main_v1 : FVec F S8x4096x128 .f32 := broadcastInDim S8x4096x128 ![] bcast_S_S8x4096x128 main_cst
  let main_v2 : IVec S8x4096x128 1 := cmpf .olt main_v0 main_v1
  let main_c : IVec S_ 1 := constantI S_ 1 1#1
  let main_v3 : IVec S_ 1 := (fun x v => Host.reduce IntOp.andi x v reducesTo_S8x4096x128_S_d0_1_2 h_S_) main_v2 main_c
  let main_v4 : FVec F S1x1x128 .f32 := Host.absf main_arg2
  let main_cst_0 : FVec F S_ .f32 := constant S_ .f32 0x7F800000#32
  let main_v5 : FVec F S1x1x128 .f32 := broadcastInDim S1x1x128 ![] bcast_S_S1x1x128 main_cst_0
  let main_v6 : IVec S1x1x128 1 := cmpf .olt main_v4 main_v5
  let main_c_1 : IVec S_ 1 := constantI S_ 1 1#1
  let main_v7 : IVec S_ 1 := (fun x v => Host.reduce IntOp.andi x v reducesTo_S1x1x128_S_d0_1_2 h_S_) main_v6 main_c_1
  let main_v8 : IVec S_ 1 := andi main_v3 main_v7
  let main_v9 : FVec F S128x128 .f32 := Host.absf main_arg3
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_v13 main_v16
-- ==== Kernel.lean ====
abbrev S8x4096x128 : Shape := ⟨3, ![8, 4096, 128]⟩
abbrev S8x4096 : Shape := ⟨2, ![8, 4096]⟩
abbrev S1x1x128 : Shape := ⟨3, ![1, 1, 128]⟩
abbrev S128x128 : Shape := ⟨2, ![128, 128]⟩
abbrev S64x128x128 : Shape := ⟨3, ![64, 128, 128]⟩
abbrev S1x64x128x128 : Shape := ⟨4, ![1, 64, 128, 128]⟩
abbrev S128 : Shape := ⟨1, ![128]⟩
abbrev S8x32x128 : Shape := ⟨3, ![8, 32, 128]⟩
abbrev S1x128 : Shape := ⟨2, ![1, 128]⟩
abbrev S8x64x128 : Shape := ⟨3, ![8, 64, 128]⟩
abbrev S8x1x64 : Shape := ⟨3, ![8, 1, 64]⟩
abbrev S8x128 : Shape := ⟨2, ![8, 128]⟩
abbrev S128x1 : Shape := ⟨2, ![128, 1]⟩
abbrev S1x4096x128 : Shape := ⟨3, ![1, 4096, 128]⟩
abbrev S4096x128 : Shape := ⟨2, ![4096, 128]⟩
abbrev S4096x1 : Shape := ⟨2, ![4096, 1]⟩
abbrev S32x128 : Shape := ⟨2, ![32, 128]⟩
abbrev S1x32x128 : Shape := ⟨3, ![1, 32, 128]⟩
abbrev S8x32 : Shape := ⟨2, ![8, 32]⟩
abbrev S8x32x1 : Shape := ⟨3, ![8, 32, 1]⟩
abbrev S8x1 : Shape := ⟨2, ![8, 1]⟩
abbrev S8x1x1 : Shape := ⟨3, ![8, 1, 1]⟩
abbrev S8x32x128x128 : Shape := ⟨4, ![8, 32, 128, 128]⟩
abbrev S8x32x128x1 : Shape := ⟨4, ![8, 32, 128, 1]⟩
abbrev S1x1x64 : Shape := ⟨3, ![1, 1, 64]⟩
abbrev S8x64x1 : Shape := ⟨3, ![8, 64, 1]⟩
abbrev S8x64x64 : Shape := ⟨3, ![8, 64, 64]⟩
abbrev S8x64 : Shape := ⟨2, ![8, 64]⟩
abbrev S1x1x4096 : Shape := ⟨3, ![1, 1, 4096]⟩
abbrev S8x64x4096 : Shape := ⟨3, ![8, 64, 4096]⟩
abbrev S1x64x4096 : Shape := ⟨3, ![1, 64, 4096]⟩
abbrev S64x4096 : Shape := ⟨2, ![64, 4096]⟩
abbrev S64x128 : Shape := ⟨2, ![64, 128]⟩
abbrev S1x64x1 : Shape := ⟨3, ![1, 64, 1]⟩
abbrev S64x1 : Shape := ⟨2, ![64, 1]⟩
abbrev S64x128x1 : Shape := ⟨3, ![64, 128, 1]⟩
abbrev S64 : Shape := ⟨1, ![64]⟩
abbrev S1x64x128 : Shape := ⟨3, ![1, 64, 128]⟩

abbrev nBuf : Space → Nat
  | .hbm => 18
  | .vmem => 15
  | .smem => 0
  | _ => 0

abbrev bufTy : (tb : Table) → Fin (tcTables nBuf tb) → BufTy
  | .hbm, ⟨0, _⟩ => ⟨S8x4096x128, .f32⟩
  | .hbm, ⟨1, _⟩ => ⟨S8x4096, .f32⟩
  | .hbm, ⟨2, _⟩ => ⟨S1x1x128, .f32⟩
  | .hbm, ⟨3, _⟩ => ⟨S128x128, .f32⟩
  | .hbm, ⟨4, _⟩ => ⟨S128x128, .f32⟩
  | .hbm, ⟨5, _⟩ => ⟨S128x128, .f32⟩
  | .hbm, ⟨6, _⟩ => ⟨S64x128x128, .f32⟩
  | .hbm, ⟨7, _⟩ => ⟨S1x64x128x128, .f32⟩
  | .hbm, ⟨8, _⟩ => ⟨S128, .f32⟩
  | .hbm, ⟨9, _⟩ => ⟨S128, .f32⟩
  | .hbm, ⟨10, _⟩ => ⟨S8x32x128, .f32⟩
  | .hbm, ⟨11, _⟩ => ⟨S64x128x128, .f32⟩
  | .hbm, ⟨12, _⟩ => ⟨S1x128, .f32⟩
  | .hbm, ⟨13, _⟩ => ⟨S1x128, .f32⟩
  | .hbm, ⟨14, _⟩ => ⟨S8x64x128, .f32⟩
  | .hbm, ⟨15, _⟩ => ⟨S8x1x64, .i32⟩
  | .hbm, ⟨16, _⟩ => ⟨S8x1x64, .f32⟩
  | .hbm, ⟨17, _⟩ => ⟨S8x128, .f32⟩
  | .local _ .vmem, ⟨0, _⟩ => ⟨S8x4096x128, .f32⟩
  | .local _ .vmem, ⟨1, _⟩ => ⟨S8x32x128, .f32⟩
  | .local _ .vmem, ⟨2, _⟩ => ⟨S1x1x128, .f32⟩
  | .local _ .vmem, ⟨3, _⟩ => ⟨S128x128, .f32⟩
  | .local _ .vmem, ⟨4, _⟩ => ⟨S128x128, .f32⟩
  | .local _ .vmem, ⟨5, _⟩ => ⟨S128x128, .f32⟩
  | .local _ .vmem, ⟨6, _⟩ => ⟨S64x128x128, .f32⟩
  | .local _ .vmem, ⟨7, _⟩ => ⟨S64x128x128, .f32⟩
  | .local _ .vmem, ⟨8, _⟩ => ⟨S1x128, .f32⟩
  | .local _ .vmem, ⟨9, _⟩ => ⟨S1x128, .f32⟩
  | .local _ .vmem, ⟨10, _⟩ => ⟨S8x64x128, .f32⟩
  | .local _ .vmem, ⟨11, _⟩ => ⟨S8x1x64, .i32⟩
  | .local _ .vmem, ⟨12, _⟩ => ⟨S8x1x64, .f32⟩
  | .local _ .vmem, ⟨13, _⟩ => ⟨S8x128, .f32⟩
  | .local _ .vmem, ⟨14, _⟩ => ⟨S8x32x128, .f32⟩
  | _, _ => ⟨S8x4096x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4_0 : Ref sig .tc := ⟨.hbm, 14, rfl⟩
abbrev main_v4_1 : Ref sig .tc := ⟨.hbm, 15, rfl⟩
abbrev main_v4_2 : Ref sig .tc := ⟨.hbm, 16, rfl⟩
abbrev main_v4_3 : Ref sig .tc := ⟨.hbm, 17, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_scratch0 : Ref sig .tc := ⟨.vmem, 14, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13

abbrev nD : Nat := 1
abbrev τ : Topo := Topo.v7x

variable {F : FTy → Type} [FloatOps F]

abbrev grid0 : Pipeline.Grid := ⟨1, ![1], ![false]⟩

@[reducible] def k0_t1_loop : Scf.Loop 32 :=
  let c0_i32_105 : BitVec 32 := 0#32
  let c64_i32 : BitVec 32 := 64#32
  let v140 : BitVec 32 := Scalar.addi c0_i32_105 c64_i32
  let c1_i32 : BitVec 32 := 1#32
  ⟨c0_i32_105, v140, c1_i32⟩
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S8x4096x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S8x32x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S64x128x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S64x128x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S8x64x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S8x1x64 .i32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S8x1x64 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S8x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]
-- ==== ReferenceIdeal.lean ====
abbrev S8x4096x128 : Shape := ⟨3, ![8, 4096, 128]⟩
abbrev S8x4096 : Shape := ⟨2, ![8, 4096]⟩
abbrev S1x1x128 : Shape := ⟨3, ![1, 1, 128]⟩
abbrev S128x128 : Shape := ⟨2, ![128, 128]⟩
abbrev S64x128x128 : Shape := ⟨3, ![64, 128, 128]⟩
abbrev S1x64x128x128 : Shape := ⟨4, ![1, 64, 128, 128]⟩
abbrev S128 : Shape := ⟨1, ![128]⟩
abbrev S_ : Shape := ⟨0, ![]⟩
abbrev S8x1x128 : Shape := ⟨3, ![8, 1, 128]⟩
abbrev S8x128x4096 : Shape := ⟨3, ![8, 128, 4096]⟩
abbrev S8x1x4096 : Shape := ⟨3, ![8, 1, 4096]⟩
abbrev S8x1 : Shape := ⟨2, ![8, 1]⟩
abbrev S8x1x1 : Shape := ⟨3, ![8, 1, 1]⟩
abbrev S64 : Shape := ⟨1, ![64]⟩
abbrev S1x64 : Shape := ⟨2, ![1, 64]⟩
abbrev S8x64 : Shape := ⟨2, ![8, 64]⟩
abbrev S8 : Shape := ⟨1, ![8]⟩
abbrev S8x64x1 : Shape := ⟨3, ![8, 64, 1]⟩
abbrev S1 : Shape := ⟨1, ![1]⟩
abbrev S1x1x1 : Shape := ⟨3, ![1, 1, 1]⟩
abbrev S8x64x128 : Shape := ⟨3, ![8, 64, 128]⟩
abbrev S8x64x1x128 : Shape := ⟨4, ![8, 64, 1, 128]⟩
abbrev S64x8x1x128 : Shape := ⟨4, ![64, 8, 1, 128]⟩
abbrev S8x1x64 : Shape := ⟨3, ![8, 1, 64]⟩
abbrev S8x128 : Shape := ⟨2, ![8, 128]⟩

abbrev nBuf : Space → Nat
  | .hbm => 230
  | .vmem => 0
  | .smem => 0
  | _ => 0

abbrev hbmTy0_0 (i : Nat) : BufTy := match i % 128 with
  | 0 => ⟨S8x4096x128, .f32⟩
  | 1 => ⟨S8x4096, .f32⟩
  | 2 => ⟨S1x1x128, .f32⟩
  | 3 => ⟨S128x128, .f32⟩
  | 4 => ⟨S128x128, .f32⟩
  | 5 => ⟨S128x128, .f32⟩
  | 6 => ⟨S64x128x128, .f32⟩
  | 7 => ⟨S1x64x128x128, .f32⟩
  | 8 => ⟨S128, .f32⟩
  | 9 => ⟨S128, .f32⟩
  | 10 => ⟨S_, .f32⟩
  | 11 => ⟨S8x4096, .f32⟩
  | 12 => ⟨S8x4096, .i1⟩
  | 13 => ⟨S_, .f32⟩
  | 14 => ⟨S_, .f32⟩
  | 15 => ⟨S8x4096, .f32⟩
  | 16 => ⟨S8x4096, .f32⟩
  | 17 => ⟨S8x4096, .f32⟩
  | 18 => ⟨S8x1x128, .f32⟩
  | 19 => ⟨S8x1x128, .f32⟩
  | 20 => ⟨S8x4096x128, .f32⟩
  | 21 => ⟨S8x4096x128, .f32⟩
  | 22 => ⟨S_, .f32⟩
  | 23 => ⟨S_, .f32⟩
  | 24 => ⟨S_, .f32⟩
  | 25 => ⟨S_, .f32⟩
  | 26 => ⟨S8x128x4096, .f32⟩
  | 27 => ⟨S8x1x4096, .f32⟩
  | 28 => ⟨S8x1x4096, .f32⟩
  | 29 => ⟨S8x1x4096, .f32⟩
  | 30 => ⟨S8x1x4096, .f32⟩
  | 31 => ⟨S_, .f32⟩
  | 32 => ⟨S8x1x4096, .f32⟩
  | 33 => ⟨S8x1x4096, .f32⟩
  | 34 => ⟨S_, .f32⟩
  | 35 => ⟨S8x1x4096, .f32⟩
  | 36 => ⟨S8x1x4096, .f32⟩
  | 37 => ⟨S8x1x4096, .f32⟩
  | 38 => ⟨S8x1x4096, .f32⟩
  | 39 => ⟨S_, .f32⟩
  | 40 => ⟨S8x1, .f32⟩
  | 41 => ⟨S_, .f32⟩
  | 42 => ⟨S8x1, .f32⟩
  | 43 => ⟨S8x1, .f32⟩
  | 44 => ⟨S8x1x1, .f32⟩
  | 45 => ⟨S8x1x4096, .f32⟩
  | 46 => ⟨S8x1x4096, .f32⟩
  | 47 => ⟨S8x1x4096, .f32⟩
  | 48 => ⟨S_, .f32⟩
  | 49 => ⟨S8x1, .f32⟩
  | 50 => ⟨S8x1x1, .f32⟩
  | 51 => ⟨S8x1x4096, .f32⟩
  | 52 => ⟨S8x1x4096, .f32⟩
  | 53 => ⟨S8x1x4096, .f32⟩
  | 54 => ⟨S8x1x4096, .f32⟩
  | 55 => ⟨S8x1x128, .f32⟩
  | 56 => ⟨S8x4096, .f32⟩
  | 57 => ⟨S8x4096, .f32⟩
  | 58 => ⟨S8x4096, .i32⟩
  | 59 => ⟨S8x4096, .f32⟩
  | 60 => ⟨S8x4096, .i32⟩
  | 61 => ⟨S64, .i32⟩
  | 62 => ⟨S1x64, .i32⟩
  | 63 => ⟨S_, .i32⟩
  | 64 => ⟨S1x64, .i32⟩
  | 65 => ⟨S1x64, .i1⟩
  | 66 => ⟨S8x1, .i32⟩
  | 67 => ⟨S_, .i32⟩
  | 68 => ⟨S_, .i32⟩
  | 69 => ⟨S8x64, .i1⟩
  | 70 => ⟨S8x64, .i32⟩
  | 71 => ⟨S8x64, .i32⟩
  | 72 => ⟨S8x64, .i32⟩
  | 73 => ⟨S_, .i32⟩
  | 74 => ⟨S8, .i32⟩
  | 75 => ⟨S_, .i32⟩
  | 76 => ⟨S_, .i32⟩
  | 77 => ⟨S8x4096, .i32⟩
  | 78 => ⟨S1x64, .i32⟩
  | 79 => ⟨S_, .i32⟩
  | 80 => ⟨S_, .i32⟩
  | 81 => ⟨S8x64, .i32⟩
  | 82 => ⟨S8, .i32⟩
  | 83 => ⟨S_, .i32⟩
  | 84 => ⟨S_, .i1⟩
  | 85 => ⟨S_, .i32⟩
  | 86 => ⟨S_, .i32⟩
  | 87 => ⟨S_, .i32⟩
  | 88 => ⟨S_, .i1⟩
  | 89 => ⟨S_, .i32⟩
  | 90 => ⟨S_, .i32⟩
  | 91 => ⟨S_, .i32⟩
  | 92 => ⟨S_, .i32⟩
  | 93 => ⟨S_, .i32⟩
  | 94 => ⟨S8x1, .i32⟩
  | 95 => ⟨S8x64, .i32⟩
  | 96 => ⟨S8x64, .i32⟩
  | 97 => ⟨S8x64, .i32⟩
  | 98 => ⟨S8x1, .i32⟩
  | 99 => ⟨S8x64, .i32⟩
  | 100 => ⟨S8x64, .i32⟩
  | 101 => ⟨S8x64, .i1⟩
  | 102 => ⟨S_, .i32⟩
  | 103 => ⟨S8x64, .i32⟩
  | 104 => ⟨S8x64, .i1⟩
  | 105 => ⟨S_, .i32⟩
  | 106 => ⟨S8x64, .i32⟩
  | 107 => ⟨S8x64, .i1⟩
  | 108 => ⟨S8x64, .i1⟩
  | 109 => ⟨S_, .i1⟩
  | 110 => ⟨S8x64, .i1⟩
  | 111 => ⟨S8x64, .i1⟩
  | 112 => ⟨S_, .i1⟩
  | 113 => ⟨S8, .i1⟩
  | 114 => ⟨S_, .i32⟩
  | 115 => ⟨S8, .i32⟩
  | 116 => ⟨S8, .i1⟩
  | 117 => ⟨S8, .i1⟩
  | 118 => ⟨S8x1, .i32⟩
  | 119 => ⟨S8x64, .i32⟩
  | 120 => ⟨S8x64, .i32⟩
  | 121 => ⟨S8x64, .i1⟩
  | 122 => ⟨S8x64, .i32⟩
  | 123 => ⟨S8x64, .i32⟩
  | 124 => ⟨S8x1, .i1⟩
  | 125 => ⟨S8x64, .i1⟩
  | 126 => ⟨S8x64, .i32⟩
  | 127 => ⟨S8, .i32⟩
  | _ => ⟨S8x4096x128, .f32⟩

abbrev hbmTy0_1 (i : Nat) : BufTy := match i % 128 with
  | 0 => ⟨S8, .i32⟩
  | 1 => ⟨S_, .i32⟩
  | 2 => ⟨S_, .i32⟩
  | 3 => ⟨S8x64, .i32⟩
  | 4 => ⟨S_, .i32⟩
  | 5 => ⟨S8x64, .i32⟩
  | 6 => ⟨S8x64, .i1⟩
  | 7 => ⟨S_, .i32⟩
  | 8 => ⟨S8x64, .i32⟩
  | 9 => ⟨S8x64, .i32⟩
  | 10 => ⟨S8x64, .i32⟩
  | 11 => ⟨S8x64x1, .i32⟩
  | 12 => ⟨S1, .i32⟩
  | 13 => ⟨S_, .i32⟩
  | 14 => ⟨S8x64x1, .i32⟩
  | 15 => ⟨S8x64x1, .i1⟩
  | 16 => ⟨S1x1x1, .i32⟩
  | 17 => ⟨S8x64x1, .i32⟩
  | 18 => ⟨S8x64x1, .i1⟩
  | 19 => ⟨S8x64x1, .i1⟩
  | 20 => ⟨S_, .i1⟩
  | 21 => ⟨S8x64, .i1⟩
  | 22 => ⟨S8x64, .f32⟩
  | 23 => ⟨S_, .f32⟩
  | 24 => ⟨S8x64, .f32⟩
  | 25 => ⟨S8x64, .f32⟩
  | 26 => ⟨S_, .i32⟩
  | 27 => ⟨S8x64, .i32⟩
  | 28 => ⟨S8x64, .i1⟩
  | 29 => ⟨S_, .i32⟩
  | 30 => ⟨S8x64, .i32⟩
  | 31 => ⟨S8x64, .i32⟩
  | 32 => ⟨S8x64, .i32⟩
  | 33 => ⟨S8x64x1, .i32⟩
  | 34 => ⟨S8x64x128, .f32⟩
  | 35 => ⟨S8x64x1, .i32⟩
  | 36 => ⟨S8x64x1, .f32⟩
  | 37 => ⟨S8x64x128, .f32⟩
  | 38 => ⟨S128, .f32⟩
  | 39 => ⟨S_, .f32⟩
  | 40 => ⟨S128, .f32⟩
  | 41 => ⟨S128, .f32⟩
  | 42 => ⟨S_, .f32⟩
  | 43 => ⟨S128, .f32⟩
  | 44 => ⟨S128, .f32⟩
  | 45 => ⟨S1x1x128, .f32⟩
  | 46 => ⟨S8x64x128, .f32⟩
  | 47 => ⟨S8x64x128, .f32⟩
  | 48 => ⟨S8x64x128, .f32⟩
  | 49 => ⟨S8x64x128, .f32⟩
  | 50 => ⟨S8x64x1, .f32⟩
  | 51 => ⟨S8x64x128, .f32⟩
  | 52 => ⟨S8x64x1x128, .f32⟩
  | 53 => ⟨S64x128x128, .f32⟩
  | 54 => ⟨S64x8x1x128, .f32⟩
  | 55 => ⟨S8x64x1x128, .f32⟩
  | 56 => ⟨S8x64x128, .f32⟩
  | 57 => ⟨S64x8x1x128, .f32⟩
  | 58 => ⟨S8x64x1x128, .f32⟩
  | 59 => ⟨S8x64x1x128, .f32⟩
  | 60 => ⟨S8x64x1x128, .f32⟩
  | 61 => ⟨S_, .f32⟩
  | 62 => ⟨S8x64x1x128, .f32⟩
  | 63 => ⟨S8x64x1x128, .f32⟩
  | 64 => ⟨S_, .f32⟩
  | 65 => ⟨S8x64x1x128, .f32⟩
  | 66 => ⟨S8x64x1x128, .f32⟩
  | 67 => ⟨S8x64x128, .f32⟩
  | 68 => ⟨S8x64x128, .f32⟩
  | 69 => ⟨S8x64x128, .f32⟩
  | 70 => ⟨S_, .f32⟩
  | 71 => ⟨S8x64, .f32⟩
  | 72 => ⟨S8x64x1, .f32⟩
  | 73 => ⟨S_, .f32⟩
  | 74 => ⟨S8x64x1, .f32⟩
  | 75 => ⟨S8x64x1, .f32⟩
  | 76 => ⟨S8x64x128, .f32⟩
  | 77 => ⟨S8x64x128, .f32⟩
  | 78 => ⟨S8x64x128, .f32⟩
  | 79 => ⟨S_, .f32⟩
  | 80 => ⟨S8x64, .f32⟩
  | 81 => ⟨S8x64x1, .f32⟩
  | 82 => ⟨S_, .f32⟩
  | 83 => ⟨S8x64x1, .f32⟩
  | 84 => ⟨S8x64x1, .f32⟩
  | 85 => ⟨S8x64x128, .f32⟩
  | 86 => ⟨S8x64x128, .f32⟩
  | 87 => ⟨S_, .f32⟩
  | 88 => ⟨S8x64x1, .f32⟩
  | 89 => ⟨S8x64x1, .f32⟩
  | 90 => ⟨S8x64x1, .f32⟩
  | 91 => ⟨S8x64x128, .f32⟩
  | 92 => ⟨S8x64x128, .f32⟩
  | 93 => ⟨S1x1x128, .f32⟩
  | 94 => ⟨S8x64x128, .f32⟩
  | 95 => ⟨S8x64x128, .f32⟩
  | 96 => ⟨S1x1x128, .f32⟩
  | 97 => ⟨S8x64x128, .f32⟩
  | 98 => ⟨S8x64x128, .f32⟩
  | 99 => ⟨S8x1x64, .i32⟩
  | 100 => ⟨S8x1x64, .f32⟩
  | 101 => ⟨S8x128, .f32⟩
  | _ => ⟨S8x4096x128, .f32⟩

abbrev hbmTy (i : Nat) : BufTy := match i / 128 with
  | 0 => hbmTy0_0 i
  | 1 => hbmTy0_1 i
  | _ => ⟨S8x4096x128, .f32⟩

abbrev bufTy : (tb : Table) → Fin (tcTables nBuf tb) → BufTy
  | .hbm, ⟨i, _⟩ => hbmTy i
  | _, _ => ⟨S8x4096x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_v0 : Ref sig .tc := ⟨.hbm, 11, rfl⟩
abbrev main_v1 : Ref sig .tc := ⟨.hbm, 12, rfl⟩
abbrev main_cst_0 : Ref sig .tc := ⟨.hbm, 13, rfl⟩
abbrev main_cst_1 : Ref sig .tc := ⟨.hbm, 14, rfl⟩
abbrev main_call0_v0 : Ref sig .tc := ⟨.hbm, 15, rfl⟩
abbrev main_call0_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_cst_2 : Ref sig .tc := ⟨.hbm, 22, rfl⟩
abbrev main_v7 : Ref sig .tc := ⟨.hbm, 23, rfl⟩
abbrev main_cst_3 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_cst_4 : Ref sig .tc := ⟨.hbm, 31, rfl⟩
abbrev main_v14 : Ref sig .tc := ⟨.hbm, 32, rfl⟩
abbrev main_v15 : Ref sig .tc := ⟨.hbm, 33, rfl⟩
abbrev main_cst_5 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_cst_6 : Ref sig .tc := ⟨.hbm, 39, rfl⟩
abbrev main_v20 : Ref sig .tc := ⟨.hbm, 40, rfl⟩
abbrev main_cst_7 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_cst_8 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_call1_v0 : Ref sig .tc := ⟨.hbm, 58, rfl⟩
abbrev main_call1_v1_0 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_c : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_c_9 : Ref sig .tc := ⟨.hbm, 67, rfl⟩
abbrev main_call2_v0 : Ref sig .tc := ⟨.hbm, 68, rfl⟩
abbrev main_call2_v1 : Ref sig .tc := ⟨.hbm, 69, rfl⟩
abbrev main_call2_v2 : Ref sig .tc := ⟨.hbm, 70, rfl⟩
abbrev main_call2_v3 : Ref sig .tc := ⟨.hbm, 71, rfl⟩
abbrev main_v42 : Ref sig .tc := ⟨.hbm, 72, rfl⟩
abbrev main_c_10 : Ref sig .tc := ⟨.hbm, 73, rfl⟩
abbrev main_v43 : Ref sig .tc := ⟨.hbm, 74, rfl⟩
abbrev main_c_11 : Ref sig .tc := ⟨.hbm, 75, rfl⟩
abbrev main_c_12 : Ref sig .tc := ⟨.hbm, 76, rfl⟩
abbrev main_v44_0 : Ref sig .tc := ⟨.hbm, 77, rfl⟩
abbrev main_v44_1 : Ref sig .tc := ⟨.hbm, 78, rfl⟩
abbrev main_v44_2 : Ref sig .tc := ⟨.hbm, 79, rfl⟩
abbrev main_v44_3 : Ref sig .tc := ⟨.hbm, 80, rfl⟩
abbrev main_v44_4 : Ref sig .tc := ⟨.hbm, 81, rfl⟩
abbrev main_v44_5 : Ref sig .tc := ⟨.hbm, 82, rfl⟩
abbrev main_while0c_c_29 : Ref sig .tc := ⟨.hbm, 83, rfl⟩
abbrev main_while0c_v112 : Ref sig .tc := ⟨.hbm, 84, rfl⟩
abbrev main_while0b_c_29 : Ref sig .tc := ⟨.hbm, 85, rfl⟩
abbrev main_while0b_v112 : Ref sig .tc := ⟨.hbm, 86, rfl⟩
abbrev main_while0b_call3_c : Ref sig .tc := ⟨.hbm, 87, rfl⟩
abbrev main_while0b_call3_v0 : Ref sig .tc := ⟨.hbm, 88, rfl⟩
abbrev main_while0b_call3_v1 : Ref sig .tc := ⟨.hbm, 89, rfl⟩
abbrev main_while0b_call3_c_0 : Ref sig .tc := ⟨.hbm, 90, rfl⟩
abbrev main_while0b_call3_v2 : Ref sig .tc := ⟨.hbm, 91, rfl⟩
abbrev main_while0b_call3_v3 : Ref sig .tc := ⟨.hbm, 92, rfl⟩
abbrev main_while0b_call3_c_1 : Ref sig .tc := ⟨.hbm, 93, rfl⟩
abbrev main_while0b_v113 : Ref sig .tc := ⟨.hbm, 94, rfl⟩
abbrev main_while0b_v114 : Ref sig .tc := ⟨.hbm, 95, rfl⟩
abbrev main_while0b_v115 : Ref sig .tc := ⟨.hbm, 96, rfl⟩
abbrev main_while0b_v116 : Ref sig .tc := ⟨.hbm, 97, rfl⟩
abbrev main_while0b_v117 : Ref sig .tc := ⟨.hbm, 98, rfl⟩
abbrev main_while0b_v118 : Ref sig .tc := ⟨.hbm, 99, rfl⟩
abbrev main_while0b_v119 : Ref sig .tc := ⟨.hbm, 100, rfl⟩
abbrev main_while0b_v120 : Ref sig .tc := ⟨.hbm, 101, rfl⟩
abbrev main_while0b_c_30 : Ref sig .tc := ⟨.hbm, 102, rfl⟩
abbrev main_while0b_v121 : Ref sig .tc := ⟨.hbm, 103, rfl⟩
abbrev main_while0b_v122 : Ref sig .tc := ⟨.hbm, 104, rfl⟩
abbrev main_while0b_c_31 : Ref sig .tc := ⟨.hbm, 105, rfl⟩
abbrev main_while0b_v123 : Ref sig .tc := ⟨.hbm, 106, rfl⟩
abbrev main_while0b_v124 : Ref sig .tc := ⟨.hbm, 107, rfl⟩
abbrev main_while0b_v125 : Ref sig .tc := ⟨.hbm, 108, rfl⟩
abbrev main_while0b_c_32 : Ref sig .tc := ⟨.hbm, 109, rfl⟩
abbrev main_while0b_call4_v0 : Ref sig .tc := ⟨.hbm, 110, rfl⟩
abbrev main_while0b_v126 : Ref sig .tc := ⟨.hbm, 111, rfl⟩
abbrev main_while0b_c_33 : Ref sig .tc := ⟨.hbm, 112, rfl⟩
abbrev main_while0b_v127 : Ref sig .tc := ⟨.hbm, 113, rfl⟩
abbrev main_while0b_c_34 : Ref sig .tc := ⟨.hbm, 114, rfl⟩
abbrev main_while0b_v128 : Ref sig .tc := ⟨.hbm, 115, rfl⟩
abbrev main_while0b_v129 : Ref sig .tc := ⟨.hbm, 116, rfl⟩
abbrev main_while0b_v130 : Ref sig .tc := ⟨.hbm, 117, rfl⟩
abbrev main_while0b_v131 : Ref sig .tc := ⟨.hbm, 118, rfl⟩
abbrev main_while0b_v132 : Ref sig .tc := ⟨.hbm, 119, rfl⟩
abbrev main_while0b_v133 : Ref sig .tc := ⟨.hbm, 120, rfl⟩
abbrev main_while0b_v134 : Ref sig .tc := ⟨.hbm, 121, rfl⟩
abbrev main_while0b_call5_v0 : Ref sig .tc := ⟨.hbm, 122, rfl⟩
abbrev main_while0b_v135 : Ref sig .tc := ⟨.hbm, 123, rfl⟩
abbrev main_while0b_v136 : Ref sig .tc := ⟨.hbm, 124, rfl⟩
abbrev main_while0b_call6_v0 : Ref sig .tc := ⟨.hbm, 125, rfl⟩
abbrev main_while0b_v137 : Ref sig .tc := ⟨.hbm, 126, rfl⟩
abbrev main_while0b_v138 : Ref sig .tc := ⟨.hbm, 127, rfl⟩
abbrev main_while0b_v139 : Ref sig .tc := ⟨.hbm, 128, rfl⟩
abbrev main_while0b_c_35 : Ref sig .tc := ⟨.hbm, 129, rfl⟩
abbrev main_while0b_v140 : Ref sig .tc := ⟨.hbm, 130, rfl⟩
abbrev main_v45 : Ref sig .tc := ⟨.hbm, 131, rfl⟩
abbrev main_call8_c : Ref sig .tc := ⟨.hbm, 132, rfl⟩
abbrev main_call8_v0 : Ref sig .tc := ⟨.hbm, 133, rfl⟩
abbrev main_call8_v1 : Ref sig .tc := ⟨.hbm, 134, rfl⟩
abbrev main_call8_c_0 : Ref sig .tc := ⟨.hbm, 135, rfl⟩
abbrev main_call8_v2 : Ref sig .tc := ⟨.hbm, 136, rfl⟩
abbrev main_call8_v3 : Ref sig .tc := ⟨.hbm, 137, rfl⟩
abbrev main_call8_v4 : Ref sig .tc := ⟨.hbm, 138, rfl⟩
abbrev main_call8_v5 : Ref sig .tc := ⟨.hbm, 139, rfl⟩
abbrev main_call8_c_1 : Ref sig .tc := ⟨.hbm, 140, rfl⟩
abbrev main_call8_c_2 : Ref sig .tc := ⟨.hbm, 141, rfl⟩
abbrev main_call8_v6 : Ref sig .tc := ⟨.hbm, 142, rfl⟩
abbrev main_call8_v7 : Ref sig .tc := ⟨.hbm, 143, rfl⟩
abbrev main_call8_v8 : Ref sig .tc := ⟨.hbm, 144, rfl⟩
abbrev main_call8_v9 : Ref sig .tc := ⟨.hbm, 145, rfl⟩
abbrev main_call8_v10 : Ref sig .tc := ⟨.hbm, 146, rfl⟩
abbrev main_call8_v11 : Ref sig .tc := ⟨.hbm, 147, rfl⟩
abbrev main_call8_c_3 : Ref sig .tc := ⟨.hbm, 148, rfl⟩
abbrev main_call8_v12 : Ref sig .tc := ⟨.hbm, 149, rfl⟩
abbrev main_call8_v13 : Ref sig .tc := ⟨.hbm, 150, rfl⟩
abbrev main_call8_cst : Ref sig .tc := ⟨.hbm, 151, rfl⟩
abbrev main_call8_v14 : Ref sig .tc := ⟨.hbm, 152, rfl⟩
abbrev main_v46 : Ref sig .tc := ⟨.hbm, 153, rfl⟩
abbrev main_c_13 : Ref sig .tc := ⟨.hbm, 154, rfl⟩
abbrev main_v47 : Ref sig .tc := ⟨.hbm, 155, rfl⟩
abbrev main_v48 : Ref sig .tc := ⟨.hbm, 156, rfl⟩
abbrev main_c_14 : Ref sig .tc := ⟨.hbm, 157, rfl⟩
abbrev main_v49 : Ref sig .tc := ⟨.hbm, 158, rfl⟩
abbrev main_v50 : Ref sig .tc := ⟨.hbm, 159, rfl⟩
abbrev main_v51 : Ref sig .tc := ⟨.hbm, 160, rfl⟩
abbrev main_v52 : Ref sig .tc := ⟨.hbm, 161, rfl⟩
abbrev main_v53 : Ref sig .tc := ⟨.hbm, 162, rfl⟩
abbrev main_v54 : Ref sig .tc := ⟨.hbm, 163, rfl⟩
abbrev main_v55 : Ref sig .tc := ⟨.hbm, 164, rfl⟩
abbrev main_v56 : Ref sig .tc := ⟨.hbm, 165, rfl⟩
abbrev main_v57 : Ref sig .tc := ⟨.hbm, 166, rfl⟩
abbrev main_cst_15 : Ref sig .tc := ⟨.hbm, 167, rfl⟩
abbrev main_v58 : Ref sig .tc := ⟨.hbm, 168, rfl⟩
abbrev main_v59 : Ref sig .tc := ⟨.hbm, 169, rfl⟩
abbrev main_cst_16 : Ref sig .tc := ⟨.hbm, 170, rfl⟩
abbrev main_v60 : Ref sig .tc := ⟨.hbm, 171, rfl⟩
abbrev main_v61 : Ref sig .tc := ⟨.hbm, 172, rfl⟩
abbrev main_v62 : Ref sig .tc := ⟨.hbm, 173, rfl⟩
abbrev main_v63 : Ref sig .tc := ⟨.hbm, 174, rfl⟩
abbrev main_v64 : Ref sig .tc := ⟨.hbm, 175, rfl⟩
abbrev main_v65 : Ref sig .tc := ⟨.hbm, 176, rfl⟩
abbrev main_v66 : Ref sig .tc := ⟨.hbm, 177, rfl⟩
abbrev main_v67 : Ref sig .tc := ⟨.hbm, 178, rfl⟩
abbrev main_v68 : Ref sig .tc := ⟨.hbm, 179, rfl⟩
abbrev main_v69 : Ref sig .tc := ⟨.hbm, 180, rfl⟩
abbrev main_v70 : Ref sig .tc := ⟨.hbm, 181, rfl⟩
abbrev main_v71 : Ref sig .tc := ⟨.hbm, 182, rfl⟩
abbrev main_v72 : Ref sig .tc := ⟨.hbm, 183, rfl⟩
abbrev main_v73 : Ref sig .tc := ⟨.hbm, 184, rfl⟩
abbrev main_v74 : Ref sig .tc := ⟨.hbm, 185, rfl⟩
abbrev main_v75 : Ref sig .tc := ⟨.hbm, 186, rfl⟩
abbrev main_v76 : Ref sig .tc := ⟨.hbm, 187, rfl⟩
abbrev main_v77 : Ref sig .tc := ⟨.hbm, 188, rfl⟩
abbrev main_cst_17 : Ref sig .tc := ⟨.hbm, 189, rfl⟩
abbrev main_v78 : Ref sig .tc := ⟨.hbm, 190, rfl⟩
abbrev main_v79 : Ref sig .tc := ⟨.hbm, 191, rfl⟩
abbrev main_cst_18 : Ref sig .tc := ⟨.hbm, 192, rfl⟩
abbrev main_v80 : Ref sig .tc := ⟨.hbm, 193, rfl⟩
abbrev main_v81 : Ref sig .tc := ⟨.hbm, 194, rfl⟩
abbrev main_v82 : Ref sig .tc := ⟨.hbm, 195, rfl⟩
abbrev main_v83 : Ref sig .tc := ⟨.hbm, 196, rfl⟩
abbrev main_v84 : Ref sig .tc := ⟨.hbm, 197, rfl⟩
abbrev main_cst_19 : Ref sig .tc := ⟨.hbm, 198, rfl⟩
abbrev main_v85 : Ref sig .tc := ⟨.hbm, 199, rfl⟩
abbrev main_v86 : Ref sig .tc := ⟨.hbm, 200, rfl⟩
abbrev main_cst_20 : Ref sig .tc := ⟨.hbm, 201, rfl⟩
abbrev main_v87 : Ref sig .tc := ⟨.hbm, 202, rfl⟩
abbrev main_v88 : Ref sig .tc := ⟨.hbm, 203, rfl⟩
abbrev main_v89 : Ref sig .tc := ⟨.hbm, 204, rfl⟩
abbrev main_v90 : Ref sig .tc := ⟨.hbm, 205, rfl⟩
abbrev main_v91 : Ref sig .tc := ⟨.hbm, 206, rfl⟩
abbrev main_cst_21 : Ref sig .tc := ⟨.hbm, 207, rfl⟩
abbrev main_v92 : Ref sig .tc := ⟨.hbm, 208, rfl⟩
abbrev main_v93 : Ref sig .tc := ⟨.hbm, 209, rfl⟩
abbrev main_cst_22 : Ref sig .tc := ⟨.hbm, 210, rfl⟩
abbrev main_v94 : Ref sig .tc := ⟨.hbm, 211, rfl⟩
abbrev main_v95 : Ref sig .tc := ⟨.hbm, 212, rfl⟩
abbrev main_v96 : Ref sig .tc := ⟨.hbm, 213, rfl⟩
abbrev main_v97 : Ref sig .tc := ⟨.hbm, 214, rfl⟩
abbrev main_cst_23 : Ref sig .tc := ⟨.hbm, 215, rfl⟩
abbrev main_v98 : Ref sig .tc := ⟨.hbm, 216, rfl⟩
abbrev main_v99 : Ref sig .tc := ⟨.hbm, 217, rfl⟩
abbrev main_v100 : Ref sig .tc := ⟨.hbm, 218, rfl⟩
abbrev main_v101 : Ref sig .tc := ⟨.hbm, 219, rfl⟩
abbrev main_v102 : Ref sig .tc := ⟨.hbm, 220, rfl⟩
abbrev main_v103 : Ref sig .tc := ⟨.hbm, 221, rfl⟩
abbrev main_v104 : Ref sig .tc := ⟨.hbm, 222, rfl⟩
abbrev main_v105 : Ref sig .tc := ⟨.hbm, 223, rfl⟩
abbrev main_v106 : Ref sig .tc := ⟨.hbm, 224, rfl⟩
abbrev main_v107 : Ref sig .tc := ⟨.hbm, 225, rfl⟩
abbrev main_v108 : Ref sig .tc := ⟨.hbm, 226, rfl⟩
abbrev main_v109 : Ref sig .tc := ⟨.hbm, 227, rfl⟩
abbrev main_v110 : Ref sig .tc := ⟨.hbm, 228, rfl⟩
abbrev main_v111 : Ref sig .tc := ⟨.hbm, 229, rfl⟩

abbrev nD : Nat := 1
abbrev τ : Topo := Topo.v7x

variable {F : FTy → Type} [FloatOps F]

abbrev main_while0_count : Scf.Loop 32 := ⟨0#32, 4095#32, 1#32⟩
-- ==== Proof.RefKept.lean ====
/- The buffers the reference's loop and its stretches leave alone, the reference's frame, and the side conditions of the
   precondition's function. -/
module

public import proofs.«01_k».proof.Defs
public import proofs.«01_k».proof.Proof.Gen.ReferenceIdeal.Run
public import Idealize.ShloMosaic.Lib.Quiescent
public import Idealize.ShloMosaic.Lib.StableHlo.RunRead

@[expose] public section
set_option maxRecDepth 16384
noncomputable section

namespace Cert.ReferenceIdeal.Hand
open Idealize.ShloMosaic Idealize.ShloMosaic.TcCoe Idealize.SL.Sem Idealize.ShloMosaic.StableHlo
open Cert.ReferenceIdeal Cert.ReferenceIdeal.Gen Cert.ReferenceIdeal.Value

/-- The references the loop's stretches write, the condition's first. -/
abbrev loopW : List (Ref sig .tc) := condOps_W ++ (while0Ops0_W ++ (while0Ops0_1_W ++ (while0Ops0_2_W ++ (while0Ops0_3_W ++ (while0Ops0_4_W ++ (while0Ops0_5_W ++ (while0Ops0_6_W ++ (while0Ops0_7_W ++ while0Ops0_8_W))))))))
/-- The references the stretches before the loop write. -/
abbrev preW : List (Ref sig .tc) := hostOps0_W ++ (hostOps0_1_W ++ (hostOps0_2_W ++ (hostOps0_3_W ++ (hostOps0_4_W ++ (hostOps0_5_W ++ hostOps0_6_W)))))
/-- A buffer no stretch of the body writes goes through a trip unchanged. -/
theorem trip_keep (V : Valuation τ sig (Elt Ideal)) {r : Ref sig .tc} (hr : r ∉ loopW) :
    afterL bodyI (after condOps V) (Proc.devRef .tc r) = V (Proc.devRef .tc r) := by
  simp only [List.mem_append, not_or] at hr
  obtain ⟨hc, h0, h1, h2, h3, h4, h5, h6, h7, h8⟩ := hr
  simp only [afterL_cons, afterL_nil]
  rw [after_of_writes_sub _ _ while0Ops0_8_writes h8, after_of_writes_sub _ _ while0Ops0_7_writes h7,
    after_of_writes_sub _ _ while0Ops0_6_writes h6, after_of_writes_sub _ _ while0Ops0_5_writes h5,
    after_of_writes_sub _ _ while0Ops0_4_writes h4, after_of_writes_sub _ _ while0Ops0_3_writes h3,
    after_of_writes_sub _ _ while0Ops0_2_writes h2, after_of_writes_sub _ _ while0Ops0_1_writes h1,
    after_of_writes_sub _ _ while0Ops0_writes h0, after_of_writes_sub _ _ condOps_writes hc]

/-- A buffer the loop does not write keeps its entry contents. -/
theorem atK_keep (m : (ℓ : Loc nD τ sig) → Buf (Elt Ideal) ℓ) (c : Dev nD) {r : Ref sig .tc} (hr : r ∉ loopW) :
    ∀ k, atK m k c (Proc.devRef .tc r) = entryContents preI m c (Proc.devRef .tc r)
  | 0 => rfl
  | k + 1 => (trip_keep (atK m k c) hr).trans (atK_keep m c hr k)

/-- A buffer the stretches before the loop do not write keeps its launch contents. -/
theorem pre_keep (V : Valuation τ sig (Elt Ideal)) {r : Ref sig .tc} (hr : r ∉ preW) :
    afterL preI V (Proc.devRef .tc r) = V (Proc.devRef .tc r) := by
  simp only [List.mem_append, not_or] at hr
  obtain ⟨h0, h1, h2, h3, h4, h5, h6⟩ := hr
  simp only [afterL_cons, afterL_nil]
  rw [after_of_writes_sub _ _ hostOps0_6_writes h6, after_of_writes_sub _ _ hostOps0_5_writes h5,
    after_of_writes_sub _ _ hostOps0_4_writes h4, after_of_writes_sub _ _ hostOps0_3_writes h3,
    after_of_writes_sub _ _ hostOps0_2_writes h2, after_of_writes_sub _ _ hostOps0_1_writes h1,
    after_of_writes_sub _ _ hostOps0_writes h0]

variable (m : (ℓ : Loc nD τ sig) → Buf (Elt Ideal) ℓ) (c : Dev nD)

/-- The contents the reference's loop ends with, the condition's last run included. -/
abbrev endContents : Valuation τ sig (Elt Ideal) := after condOps (atK m 4095 c)

/-- A buffer neither the stretches before the loop nor the loop write holds its launch contents after the loop. -/
theorem end_arg {r : Ref sig .tc} (h1 : r ∉ preW) (h2 : r ∉ loopW) :
    endContents m c (Proc.devRef .tc r) = m ((c.tc : Thread nD τ).loc r) := by
  have hc : r ∉ condOps_W := fun h => h2 (List.mem_append_left _ h)
  rw [endContents, after_of_writes_sub _ _ condOps_writes hc, atK_keep m c h2]
  exact pre_keep _ h1

/-- The arguments end as they began. -/
theorem args_kept {s : MemSt nD τ sig (Elt Ideal)}
    (h : ∀ (c : Dev nD) (b : Ref sig .tc), (Proc.devRef .tc b : DevRef τ sig).isScoped = false →
      s.mem ((c.tc : Thread nD τ).loc b) = finalContents condOps preI bodyI postI 4095 m c (Proc.devRef .tc b)) (c : Dev nD) :
    s.mem ((c.tc : Thread nD τ).loc main_arg0) = m ((c.tc : Thread nD τ).loc main_arg0)
    ∧ s.mem ((c.tc : Thread nD τ).loc main_arg1) = m ((c.tc : Thread nD τ).loc main_arg1)
    ∧ s.mem ((c.tc : Thread nD τ).loc main_arg2) = m ((c.tc : Thread nD τ).loc main_arg2)
    ∧ s.mem ((c.tc : Thread nD τ).loc main_arg3) = m ((c.tc : Thread nD τ).loc main_arg3)
    ∧ s.mem ((c.tc : Thread nD τ).loc main_arg4) = m ((c.tc : Thread nD τ).loc main_arg4)
    ∧ s.mem ((c.tc : Thread nD τ).loc main_arg5) = m ((c.tc : Thread nD τ).loc main_arg5)
    ∧ s.mem ((c.tc : Thread nD τ).loc main_arg6) = m ((c.tc : Thread nD τ).loc main_arg6)
    ∧ s.mem ((c.tc : Thread nD τ).loc main_arg7) = m ((c.tc : Thread nD τ).loc main_arg7)
    ∧ s.mem ((c.tc : Thread nD τ).loc main_arg8) = m ((c.tc : Thread nD τ).loc main_arg8)
    ∧ s.mem ((c.tc : Thread nD τ).loc main_arg9) = m ((c.tc : Thread nD τ).loc main_arg9) := by
  refine ⟨?_, ?_, ?_, ?_, ?_, ?_, ?_, ?_, ?_, ?_⟩ <;>
    (refine (h c _ rfl).trans (Eq.trans ?_ (end_arg m c (by decide +kernel) (by decide +kernel)))
     show afterL postI (endContents m c) _ = _
     generalize endContents m c = V
     rw [afterL_eq_after_flatten]
     after_reads_simp)

/-- The reference terminates, keeps its arguments, and leaves every semaphore at zero. -/
theorem quiescent : Cert.quiescent_ReferenceIdeal := fun m g _ =>
  (θ_run defs _ _).mono (fun r h => ⟨args_kept m h, sem_eq_zero_of_no_sems (by decide) r.2⟩) (run_fold m g)

end Cert.ReferenceIdeal.Hand

namespace Cert.Pre_finite_inputs.Gen
open Idealize.ShloMosaic

/-- The shape relations the precondition's function takes. -/
instance facts : Cert.Pre_finite_inputs.Facts where
  bcast_S_S8x4096x128 := by decide
  reducesTo_S8x4096x128_S_d0_1_2 := by decide
  h_S_ := by decide
  bcast_S_S1x1x128 := by decide
  reducesTo_S1x1x128_S_d0_1_2 := by decide
  bcast_S_S128x128 := by decide
  reducesTo_S128x128_S_d0_1 := by decide

end Cert.Pre_finite_inputs.Gen

end
-- ==== Proof.Select.lean ====
/- The greedy selection of spread-out places, as mathematics: take the first place with the largest score, strike out what
   lies within three places of it, and repeat; and why a walk down the sorted scores that keeps a place when it is four or
   more away from all those kept finds the same places in the same order. -/
module

public import Idealize.ShloMosaic.Lib.Pointwise

@[expose] public section
noncomputable section

namespace Cert.Sel

/-- Two places lie within three of each other. -/
def Near (a b : Fin 4096) : Prop := a.val ≤ b.val + 3 ∧ b.val ≤ a.val + 3

instance (a b : Fin 4096) : Decidable (Near a b) := inferInstanceAs (Decidable (_ ∧ _))

theorem near_refl (a : Fin 4096) : Near a a := ⟨by omega, by omega⟩
theorem near_comm {a b : Fin 4096} : Near a b ↔ Near b a := and_comm

/-- Some place holds the largest score and comes first among those that do. -/
theorem exists_pick (e : Fin 4096 → EReal) : ∃ a, (∀ b, e b ≤ e a) ∧ ∀ b, (∀ c, e c ≤ e b) → a ≤ b := by
  obtain ⟨a, -, ha⟩ := Finset.exists_max_image Finset.univ e ⟨0, Finset.mem_univ _⟩
  have hne : (Finset.univ.filter fun b => ∀ c, e c ≤ e b).Nonempty :=
    ⟨a, Finset.mem_filter.mpr ⟨Finset.mem_univ _, fun c => ha c (Finset.mem_univ _)⟩⟩
  refine ⟨Finset.min' _ hne, (Finset.mem_filter.mp (Finset.min'_mem _ hne)).2, fun b hb => ?_⟩
  exact Finset.min'_le _ _ (Finset.mem_filter.mpr ⟨Finset.mem_univ _, hb⟩)

/-- The first place with the largest score. -/
def pickOf (e : Fin 4096 → EReal) : Fin 4096 := (exists_pick e).choose

theorem le_pickOf (e : Fin 4096 → EReal) (b : Fin 4096) : e b ≤ e (pickOf e) := (exists_pick e).choose_spec.1 b
theorem pickOf_le (e : Fin 4096 → EReal) (b : Fin 4096) (h : e (pickOf e) ≤ e b) : pickOf e ≤ b :=
  (exists_pick e).choose_spec.2 b fun c => (le_pickOf e c).trans h
theorem pickOf_unique (e : Fin 4096 → EReal) (a : Fin 4096) (h : ∀ b, e b ≤ e a) (h' : ∀ b, e a ≤ e b → a ≤ b) :
    pickOf e = a := le_antisymm (pickOf_le e a (h _)) (h' _ (le_pickOf e a))

/-- The scores after `j` picks: the places near a pick are marked `mk`. -/
def scoreAt (mk : EReal) (s : Fin 4096 → EReal) : ℕ → Fin 4096 → EReal
  | 0 => s
  | j + 1 => fun a => if Near a (pickOf (scoreAt mk s j)) then mk else scoreAt mk s j a

/-- The `j`-th pick. -/
def pick (mk : EReal) (s : Fin 4096 → EReal) (j : ℕ) : Fin 4096 := pickOf (scoreAt mk s j)

/-- A place is struck out by the first `j` of some places. -/
def Cov (p : ℕ → Fin 4096) (j : ℕ) (a : Fin 4096) : Prop := ∃ i < j, Near a (p i)

theorem Cov.mono {p : ℕ → Fin 4096} {j k : ℕ} {a : Fin 4096} (h : Cov p j a) (hk : j ≤ k) : Cov p k a :=
  h.imp fun _ h => ⟨h.1.trans_le hk, h.2⟩

theorem cov_congr {p q : ℕ → Fin 4096} {j : ℕ} {a : Fin 4096} (h : ∀ i < j, p i = q i) : Cov p j a ↔ Cov q j a :=
  exists_congr fun i => and_congr_right fun hi => by rw [h i hi]

open Classical in
/-- The scores after `j` picks in closed form. -/
theorem scoreAt_eq (mk : EReal) (s : Fin 4096 → EReal) (j : ℕ) (a : Fin 4096) :
    scoreAt mk s j a = if Cov (pick mk s) j a then mk else s a := by
  induction j with
  | zero => rw [if_neg (by rintro ⟨i, hi, -⟩; omega)]; rfl
  | succ j ih =>
    show (if Near a (pick mk s j) then mk else scoreAt mk s j a) = _
    by_cases hn : Near a (pick mk s j)
    · rw [if_pos hn, if_pos ⟨j, by omega, hn⟩]
    · rw [if_neg hn, ih]
      refine if_congr ⟨fun h => h.mono (by omega), ?_⟩ rfl rfl
      rintro ⟨i, hi, h⟩
      refine ⟨i, ?_, h⟩
      rcases Nat.lt_succ_iff_lt_or_eq.mp hi with h' | rfl
      · exact h'
      · exact absurd h hn

/-- The places near one place are seven at most. -/
theorem card_near (p : Fin 4096) : (Finset.univ.filter fun a => Near a p).card ≤ 7 := by
  have h : ((Finset.univ.filter fun a => Near a p).image fun a : Fin 4096 => a.val + 3 - p.val) ⊆ Finset.range 7 := by
    intro k hk
    obtain ⟨a, ha, rfl⟩ := Finset.mem_image.mp hk
    have := (Finset.mem_filter.mp ha).2
    have h1 : a.val ≤ p.val + 3 := this.1
    exact Finset.mem_range.mpr (by omega)
  have hi : Set.InjOn (fun a : Fin 4096 => a.val + 3 - p.val) (Finset.univ.filter fun a => Near a p) := by
    intro a ha b hb hab
    have h1 : p.val ≤ a.val + 3 := ((Finset.mem_filter.mp (Finset.mem_coe.mp ha)).2).2
    have h2 : p.val ≤ b.val + 3 := ((Finset.mem_filter.mp (Finset.mem_coe.mp hb)).2).2
    refine Fin.ext ?_
    have : a.val + 3 - p.val = b.val + 3 - p.val := hab
    omega
  rw [← Finset.card_image_of_injOn hi]
  exact (Finset.card_le_card h).trans (by simp)

/-- Fewer than sixty-four places never strike everything out. -/
theorem exists_not_cov (p : ℕ → Fin 4096) (j : ℕ) (hj : j ≤ 64) : ∃ a, ¬ Cov p j a := by
  by_contra hc
  have hc : ∀ a, Cov p j a := fun a => by_contra fun h => hc ⟨a, h⟩
  have hs : (Finset.univ : Finset (Fin 4096)) ⊆ (Finset.range j).biUnion fun i => Finset.univ.filter fun a => Near a (p i) := by
    intro a _
    obtain ⟨i, hi, hn⟩ := hc a
    exact Finset.mem_biUnion.mpr ⟨i, Finset.mem_range.mpr hi, Finset.mem_filter.mpr ⟨Finset.mem_univ _, hn⟩⟩
  have h1 := (Finset.card_le_card hs).trans (Finset.card_biUnion_le_card_mul _ _ 7 fun i _ => card_near (p i))
  rw [Finset.card_univ, Fintype.card_fin, Finset.card_range] at h1
  omega

section
variable {mk : EReal} {s : Fin 4096 → EReal} (hs : ∀ a, mk < s a)
include hs

/-- A pick is not struck out by the picks before it. -/
theorem pick_not_cov {j : ℕ} (hj : j ≤ 64) : ¬ Cov (pick mk s) j (pick mk s j) := by
  intro hc
  obtain ⟨a, ha⟩ := exists_not_cov (pick mk s) j hj
  have h := le_pickOf (scoreAt mk s j) a
  change scoreAt mk s j a ≤ scoreAt mk s j (pick mk s j) at h
  rw [scoreAt_eq, scoreAt_eq, if_neg ha, if_pos hc] at h
  exact absurd (hs a) (not_lt.mpr h)

/-- The largest score is the pick's own. -/
theorem score_pick {j : ℕ} (hj : j ≤ 64) : scoreAt mk s j (pick mk s j) = s (pick mk s j) := by
  rw [scoreAt_eq, if_neg (pick_not_cov hs hj)]

/-- A place not struck out scores less than the pick, or as much and comes no earlier. -/
theorem pick_first {j : ℕ} (hj : j ≤ 64) {a : Fin 4096} (ha : ¬ Cov (pick mk s) j a) :
    s a < s (pick mk s j) ∨ (s a = s (pick mk s j) ∧ pick mk s j ≤ a) := by
  have h := le_pickOf (scoreAt mk s j) a
  have h' := pickOf_le (scoreAt mk s j) a
  change scoreAt mk s j a ≤ scoreAt mk s j (pick mk s j) at h
  change scoreAt mk s j (pick mk s j) ≤ scoreAt mk s j a → pick mk s j ≤ a at h'
  rw [score_pick hs hj, scoreAt_eq, if_neg ha] at h h'
  rcases h.lt_or_eq with h | h
  · exact .inl h
  · exact .inr ⟨h, h' h.ge⟩

/-- Different picks are different places. -/
theorem pick_ne {i j : ℕ} (hij : i < j) (hj : j ≤ 64) : pick mk s i ≠ pick mk s j := fun h =>
  pick_not_cov hs hj ⟨i, hij, h ▸ near_refl _⟩

theorem pick_inj : Function.Injective fun k : Fin 64 => pick mk s k := by
  intro a b h
  by_contra hne
  rcases lt_or_gt_of_ne (fun e => hne (Fin.ext e) : a.val ≠ b.val) with hl | hl
  · exact pick_ne hs hl (by omega) h
  · exact pick_ne hs hl (by omega) h.symm

/-! ## The walk down the sorted scores -/

/-- The order of the walk: larger scores first, and of equal scores the earlier place. -/
def Down (s : Fin 4096 → EReal) (σ : Fin 4096 → Fin 4096) : Prop :=
  Function.Surjective σ ∧ ∀ i j, i < j → s (σ j) < s (σ i) ∨ (s (σ i) = s (σ j) ∧ σ i < σ j)

omit hs in
/-- What the walk has kept after the first `i` places: `c` of them, the first `c` picks; and all places passed are near one
    of them as long as fewer than sixty-four are kept. -/
structure Kept (mk : EReal) (s : Fin 4096 → EReal) (σ : Fin 4096 → Fin 4096) (i c : ℕ) (q : ℕ → Fin 4096) : Prop where
  le : c ≤ 64
  eq : ∀ k < c, q k = pick mk s k
  cov : c < 64 → ∀ t : Fin 4096, t.val < i → Cov (pick mk s) c (σ t)

/-- A place far from all those kept is the next pick. -/
theorem Kept.next {σ : Fin 4096 → Fin 4096} (hσ : Down s σ) {i c : ℕ} {q : ℕ → Fin 4096} (h : Kept mk s σ i c q)
    (hc : c < 64) (hi : i < 4096) (hf : ∀ k < c, ¬ Near (q k) (σ ⟨i, hi⟩)) : σ ⟨i, hi⟩ = pick mk s c := by
  have hu : ¬ Cov (pick mk s) c (σ ⟨i, hi⟩) := by
    rintro ⟨k, hk, hn⟩
    exact hf k hk (by rw [h.eq k hk]; exact near_comm.mp hn)
  obtain ⟨t, ht⟩ := hσ.1 (pick mk s c)
  rcases lt_trichotomy t.val i with hl | he | hg
  · exact absurd (ht ▸ h.cov hc t hl) (pick_not_cov hs hc.le)
  · rw [← ht]; congr 1; exact Fin.ext he.symm
  · have h1 := hσ.2 ⟨i, hi⟩ t hg
    rw [ht] at h1
    rcases pick_first hs hc.le hu with h2 | ⟨h2, h3⟩ <;> rcases h1 with h1 | ⟨h1, h4⟩
    · exact absurd h1 (not_lt.mpr h2.le)
    · exact absurd h1 h2.ne
    · exact absurd h2.symm h1.ne
    · exact absurd h3 (not_le.mpr h4)

/-- One step that keeps the place. -/
theorem Kept.take {σ : Fin 4096 → Fin 4096} (hσ : Down s σ) {i c : ℕ} {q q' : ℕ → Fin 4096} (h : Kept mk s σ i c q)
    (hc : c < 64) (hi : i < 4096) (hf : ∀ k < c, ¬ Near (q k) (σ ⟨i, hi⟩)) (hq : ∀ k < c, q' k = q k)
    (hqc : q' c = σ ⟨i, hi⟩) : Kept mk s σ (i + 1) (c + 1) q' := by
  have hp := h.next hs hσ hc hi hf
  refine ⟨by omega, fun k hk => ?_, fun _ t ht => ?_⟩
  · rcases Nat.lt_succ_iff_lt_or_eq.mp hk with hk | rfl
    · rw [hq k hk, h.eq k hk]
    · rw [hqc, hp]
  · rcases Nat.lt_succ_iff_lt_or_eq.mp ht with ht | ht
    · exact (h.cov hc t ht).mono (by omega)
    · exact ⟨c, by omega, by rw [← hp, show t = ⟨i, hi⟩ from Fin.ext ht]; exact near_refl _⟩

omit hs in
/-- One step that passes over the place. -/
theorem Kept.skip {σ : Fin 4096 → Fin 4096} {i c : ℕ} {q q' : ℕ → Fin 4096} (h : Kept mk s σ i c q)
    (hi : i < 4096) (hf : c < 64 → ∃ k < c, Near (q k) (σ ⟨i, hi⟩)) (hq : ∀ k < c, q' k = q k) :
    Kept mk s σ (i + 1) c q' := by
  refine ⟨h.le, fun k hk => (hq k hk).trans (h.eq k hk), fun hc t ht => ?_⟩
  rcases Nat.lt_succ_iff_lt_or_eq.mp ht with ht | ht
  · exact h.cov hc t ht
  · obtain ⟨k, hk, hn⟩ := hf hc
    exact ⟨k, hk, by rw [show t = ⟨i, hi⟩ from Fin.ext ht, ← h.eq k hk]; exact near_comm.mp hn⟩

omit hs in
/-- After all places sixty-four are kept. -/
theorem Kept.done {σ : Fin 4096 → Fin 4096} (hσ : Down s σ) {c : ℕ} {q : ℕ → Fin 4096} (h : Kept mk s σ 4096 c q) : c = 64 := by
  by_contra hne
  have hc : c < 64 := lt_of_le_of_ne h.le hne
  obtain ⟨a, ha⟩ := exists_not_cov (pick mk s) c hc.le
  obtain ⟨t, rfl⟩ := hσ.1 a
  exact ha (h.cov hc t t.isLt)

/-- Before the second place the first is kept. -/
theorem Kept.first {σ : Fin 4096 → Fin 4096} (hσ : Down s σ) {q : ℕ → Fin 4096} (hq : q 0 = σ 0) : Kept mk s σ 1 1 q := by
  have h0 : Kept mk s σ 0 0 q := ⟨by omega, fun k hk => absurd hk (by omega), fun _ t ht => absurd ht (by omega)⟩
  exact h0.take hs hσ (by omega) (by omega) (fun k hk => absurd hk (by omega)) (fun _ _ => rfl) hq

end

end Cert.Sel
-- ==== Proof.Rank.lean ====
/- Sorting sixty-four distinct positions by counting: the rank of a position is how many lie below it, and the position of
   rank `a` is the `a`-th in ascending order. -/
module

public import proofs.«01_k».proof.Proof.Select

@[expose] public section
noncomputable section

namespace Cert.Sel

variable (p : Fin 64 → Fin 4096)

/-- How many positions lie below the `k`-th. -/
def rk (k : Fin 64) : ℕ := (Finset.univ.filter fun j => p j < p k).card

theorem rk_lt (k : Fin 64) : rk p k < 64 := by
  have h : (Finset.univ.filter fun j => p j < p k) ⊂ (Finset.univ : Finset (Fin 64)) :=
    Finset.filter_ssubset.mpr ⟨k, Finset.mem_univ _, lt_irrefl _⟩
  simpa [rk] using Finset.card_lt_card h

/-- The rank as a place among sixty-four. -/
def rkF (k : Fin 64) : Fin 64 := ⟨rk p k, rk_lt p k⟩

/-- The position of rank `a`. -/
def srt (a : Fin 64) : Fin 4096 := p (Function.invFun (rkF p) a)

variable {p}

theorem rk_mono {j k : Fin 64} (h : p j < p k) : rk p j < rk p k := by
  refine Finset.card_lt_card ⟨fun i hi => ?_, fun hs => ?_⟩
  · exact Finset.mem_filter.mpr ⟨Finset.mem_univ _, (Finset.mem_filter.mp hi).2.trans h⟩
  · exact lt_irrefl _ (Finset.mem_filter.mp (hs (Finset.mem_filter.mpr ⟨Finset.mem_univ _, h⟩))).2

theorem rkF_inj (hp : Function.Injective p) : Function.Injective (rkF p) := by
  intro j k h
  have h : rk p j = rk p k := congrArg Fin.val h
  rcases lt_trichotomy (p j) (p k) with hl | he | hl
  · have := rk_mono hl; omega
  · exact hp he
  · have := rk_mono hl; omega

theorem rkF_surj (hp : Function.Injective p) : Function.Surjective (rkF p) :=
  Finite.injective_iff_surjective.mp (rkF_inj hp)

/-- The position ranked `a` is the `a`-th in order. -/
theorem srt_eq (hp : Function.Injective p) {k a : Fin 64} (h : rkF p k = a) : srt p a = p k := by
  rw [srt, ← h, Function.leftInverse_invFun (rkF_inj hp)]

/-- An arrangement of the positions in ascending order is the one by rank. -/
theorem srt_of_sorted (hp : Function.Injective p) {τ : Fin 64 → Fin 64} (hτ : Function.Surjective τ)
    (h : ∀ i j, i < j → p (τ i) < p (τ j)) (a : Fin 64) : srt p a = p (τ a) := by
  refine srt_eq hp (Fin.ext ?_)
  have hm : ∀ i j, p (τ i) < p (τ j) ↔ i < j := fun i j => by
    refine ⟨fun hl => ?_, h i j⟩
    rcases lt_trichotomy i j with hi | rfl | hi
    · exact hi
    · exact absurd hl (lt_irrefl _)
    · exact absurd (hl.trans (h j i hi)) (lt_irrefl _)
  have hinj : Function.Injective τ := Finite.injective_iff_surjective.mpr hτ
  have he : (Finset.univ.filter fun j => p j < p (τ a)) = (Finset.univ.filter fun i => i < a).image τ := by
    ext j
    simp only [Finset.mem_filter, Finset.mem_univ, true_and, Finset.mem_image]
    constructor
    · intro hj
      obtain ⟨i, rfl⟩ := hτ j
      exact ⟨i, (hm i a).mp hj, rfl⟩
    · rintro ⟨i, hi, rfl⟩
      exact (hm i a).mpr hi
  show rk p (τ a) = a.val
  rw [rk, he, Finset.card_image_of_injective _ hinj]
  have : (Finset.univ.filter fun i : Fin 64 => i < a) = Finset.Iio a := by ext; simp
  rw [this, Fin.card_Iio]

end Cert.Sel

end
-- ==== Proof.Spec.lean ====
/- The mathematics both programs compute, one batch at a time: the attention over 4096 positions, the attended barcode, the
   sixty-four picks in order of position, and the projected, gated and normalized rows. -/
module

public import proofs.«01_k».proof.Proof.Rank
public import Idealize.ShloMosaic.Lib.Pointwise

@[expose] public section
noncomputable section

namespace Cert.Spec
open Idealize.ShloMosaic

/-- The padding mask's factor. -/
def padS (v : EReal) : EReal := if v = Ideal.ofBits FTy.f32 0xC0000000#32 then 0 else 1
/-- The scale of the logits. -/
def sclS : EReal := Ideal.div 1 (Ideal.sqrt (Ideal.ofBits FTy.f32 0x43000000#32))
/-- A query: the barcode projected. -/
def qS (bc : Fin 128 → EReal) (wq : Fin 128 → Fin 128 → EReal) (e : Fin 128) : EReal := ∑ k, bc k * wq k e
/-- The logits before padding. -/
def lgS (x : Fin 4096 → Fin 128 → EReal) (q : Fin 128 → EReal) (wk : Fin 128 → Fin 128 → EReal) (n : Fin 4096) : EReal :=
  (∑ e, (∑ k, x n k * wk k e) * q e) * sclS
/-- A padded logit. -/
def lgaS (l p : EReal) : EReal := l + (1 - p) * Ideal.ofBits FTy.f32 0xCE6E6B28#32
/-- The exponential of a logit less the largest. -/
def exS (a : Fin 4096 → EReal) (n : Fin 4096) : EReal := Ideal.exp (a n - Finset.univ.sup a)
/-- The attention: the exponential's share of the total, times the padding factor. -/
def attS (a p : Fin 4096 → EReal) (n : Fin 4096) : EReal := Ideal.div (exS a n) (∑ j, exS a j) * p n
/-- The attended barcode. -/
def boutS (att : Fin 4096 → EReal) (x : Fin 4096 → Fin 128 → EReal) (wv : Fin 128 → Fin 128 → EReal) (e : Fin 128) : EReal :=
  ∑ n, att n * ∑ k, x n k * wv k e
/-- The mark a struck-out position's score is replaced by. -/
def mark : EReal := Ideal.ofBits FTy.f32 0xBF800000#32
/-- The picks in the order taken. -/
def pickS (att : Fin 4096 → EReal) (k : Fin 64) : Fin 4096 := Cert.Sel.pick mark att k
/-- The picks in order of position. -/
def selS (att : Fin 4096 → EReal) (a : Fin 64) : Fin 4096 := Cert.Sel.srt (pickS att) a
/-- The wavelength of column `e` of the position encoding. -/
def peS (e : Fin 128) : EReal :=
  Ideal.pow (Ideal.ofBits FTy.f32 0x42200000#32) (Ideal.div ((e.val : ℝ) : EReal) (Ideal.ofBits FTy.f32 0x43000000#32))
/-- A row with its position encoding. -/
def rowS (x : Fin 4096 → Fin 128 → EReal) (u : Fin 4096) (e : Fin 128) : EReal :=
  x u e + Ideal.sin (Ideal.div ((u.val : ℝ) : EReal) (peS e))
/-- A row projected, gated and weighted. -/
def gateS (o : Fin 128 → EReal) (w g : Fin 128 → Fin 128 → EReal) (wt : EReal) (e : Fin 128) : EReal :=
  (∑ k, o k * w k e) * Ideal.div 1 (1 + Ideal.exp (-∑ k, o k * g k e)) * wt
/-- The mean of a row. -/
def meanS (y : Fin 128 → EReal) : EReal := Ideal.div (∑ e, y e) (Ideal.ofBits FTy.f32 0x43000000#32)
/-- A row less its mean. -/
def centS (y : Fin 128 → EReal) (e : Fin 128) : EReal := y e - meanS y
/-- A row normalized, scaled and shifted. -/
def normS (y ga be : Fin 128 → EReal) (e : Fin 128) : EReal :=
  Ideal.div (centS y e) (Ideal.sqrt (meanS (fun k => centS y k * centS y k) + Ideal.ofBits FTy.f32 0x3A83126F#32)) * ga e + be e

end Cert.Spec

end
-- ==== Proof.Words.lean ====
/- Small facts about words that hold positions, about the constants both programs use, and about the extended reals. -/
module

public import proofs.«01_k».proof.Proof.Spec
public import Idealize.ShloMosaic.Lib.IdealHost

@[expose] public section
noncomputable section

namespace Cert.Spec
open Idealize.ShloMosaic

/-! ## Constants -/

theorem c_neg_inf : Ideal.ofBits FTy.f32 4286578688#32 = (⊥ : EReal) := by simp [Ideal.ofBits, Ideal.ieee]
theorem c_inf : Ideal.ofBits FTy.f32 2139095040#32 = (⊤ : EReal) := by simp [Ideal.ofBits, Ideal.ieee]
theorem c_128 : Ideal.ofBits FTy.f32 1124073472#32 = ((128 : ℝ) : EReal) := by
  simp [Ideal.ofBits, Ideal.ieee, -EReal.coe_mul]; norm_num
theorem c_40 : Ideal.ofBits FTy.f32 1109393408#32 = ((40 : ℝ) : EReal) := by
  simp [Ideal.ofBits, Ideal.ieee, -EReal.coe_mul]; norm_num
theorem c_mark : mark = ((-(1 : ℝ)) : EReal) := by
  simp [mark, Ideal.ofBits, Ideal.ieee, -EReal.coe_mul, -EReal.coe_neg]; norm_num
theorem c_eps : ∃ r : ℝ, 0 < r ∧ Ideal.ofBits FTy.f32 981668463#32 = (r : EReal) := by
  refine ⟨_, ?_, by simp [Ideal.ofBits, Ideal.ieee, -EReal.coe_mul]; rfl⟩
  norm_num
theorem c_pen : ∃ r : ℝ, Ideal.ofBits FTy.f32 3463342888#32 = (r : EReal) := by
  refine ⟨_, by simp [Ideal.ofBits, Ideal.ieee, -EReal.coe_mul]; rfl⟩

/-! ## Words -/

theorem toInt_ofNat {n : ℕ} (h : n < 2147483648) : (BitVec.ofNat 32 n).toInt = n := by
  rw [BitVec.toInt_eq_toNat_of_lt (by rw [BitVec.toNat_ofNat]; omega), BitVec.toNat_ofNat, Nat.mod_eq_of_lt (by omega)]

theorem ofNat_inj {a b : ℕ} (ha : a < 2147483648) (hb : b < 2147483648) : BitVec.ofNat 32 a = BitVec.ofNat 32 b ↔ a = b := by
  constructor
  · intro h
    have := congrArg BitVec.toInt h
    rw [toInt_ofNat ha, toInt_ofNat hb] at this
    exact_mod_cast this
  · rintro rfl; rfl

theorem sitofp_ofNat {n : ℕ} (h : n < 2147483648) :
    (FloatOps.sitofp FTy.f32 (BitVec.ofNat 32 n) : Ideal .f32) = ((n : ℝ) : EReal) := by
  show (((BitVec.ofNat 32 n).toInt : ℝ) : EReal) = _
  rw [toInt_ofNat h]; norm_cast

theorem fptosi_nat {n : ℕ} (h : n < 2147483648) : FloatOps.fptosi (F := Ideal) (φ := FTy.f32) 32 ((n : ℝ) : EReal) = BitVec.ofNat 32 n := by
  show BitVec.ofInt 32 (Ideal.toIntClamped _ _ ((n : ℝ) : EReal)) = _
  have : Ideal.toIntClamped (-(2 ^ (32 - 1) : ℕ)) ((2 ^ (32 - 1) : ℕ) - 1) ((n : ℝ) : EReal) = (n : ℤ) := by
    show max _ (min _ (if (0 : ℝ) ≤ (n : ℝ) then ⌊(n : ℝ)⌋ else ⌈(n : ℝ)⌉)) = _
    rw [if_pos (Nat.cast_nonneg n), Int.floor_natCast]
    omega
  rw [this, BitVec.ofInt_natCast]

/-- A truth value read as a float. -/
theorem sitofp_bool (p : Prop) [Decidable p] :
    (FloatOps.sitofp FTy.f32 (BitVec.setWidth 32 (BitVec.ofBool (decide p))) : Ideal .f32) = if p then (1 : EReal) else 0 := by
  by_cases h : p
  · simp only [h, decide_true, if_true]
    show (((BitVec.setWidth 32 (BitVec.ofBool true)).toInt : ℝ) : EReal) = 1
    rw [show (BitVec.setWidth 32 (BitVec.ofBool true)).toInt = 1 from by decide]; norm_num
  · simp only [h, decide_false, if_false]
    show (((BitVec.setWidth 32 (BitVec.ofBool false)).toInt : ℝ) : EReal) = 0
    rw [show (BitVec.setWidth 32 (BitVec.ofBool false)).toInt = 0 from by decide]; norm_num

theorem cmpi_eq_ofNat {a b : ℕ} (ha : a < 2147483648) (hb : b < 2147483648) :
    IntOp.cmpi .eq (BitVec.ofNat 32 a) (BitVec.ofNat 32 b) = BitVec.ofBool (decide (a = b)) := by
  show BitVec.ofBool (BitVec.ofNat 32 a == BitVec.ofNat 32 b) = _
  congr 1
  rw [Bool.eq_iff_iff, beq_iff_eq, ofNat_inj ha hb, decide_eq_true_iff]

theorem select_bool {α : Type} (p : Prop) [Decidable p] (a b : α) :
    Scalar.select (BitVec.ofBool (decide p)) a b = if p then a else b := by
  by_cases h : p <;> simp [Scalar.select, h]

/-- The absolute difference of two positions. -/
theorem toInt_absdiff {a b : ℕ} (ha : a < 4096) (hb : b < 4096) :
    (IntOp.absi (IntOp.subi (BitVec.ofNat 32 a) (BitVec.ofNat 32 b))).toInt = |(a : ℤ) - b| := by
  have h1 : (IntOp.subi (BitVec.ofNat 32 a) (BitVec.ofNat 32 b)).toInt = (a : ℤ) - b := by
    show (BitVec.ofNat 32 a - BitVec.ofNat 32 b).toInt = _
    rw [BitVec.toInt_sub, toInt_ofNat (by omega), toInt_ofNat (by omega)]
    rw [Int.bmod_def]; split <;> omega
  generalize hd : IntOp.subi (BitVec.ofNat 32 a) (BitVec.ofNat 32 b) = d at h1
  show (if d.msb then -d else d).toInt = _
  by_cases hm : d.msb
  · rw [if_pos hm, BitVec.toInt_neg, h1]
    have : d.toInt < 0 := BitVec.msb_eq_toInt ▸ hm |> of_decide_eq_true
    rw [h1] at this
    rw [abs_of_neg this, Int.bmod_def]; split <;> omega
  · rw [if_neg hm, h1]
    have : ¬ d.toInt < 0 := fun h => hm (by rw [BitVec.msb_eq_toInt]; exact decide_eq_true h)
    rw [h1] at this
    rw [abs_of_nonneg (by omega)]

theorem sle_ofNat {x : BitVec 32} {n : ℕ} (h : n < 2147483648) : x.sle (BitVec.ofNat 32 n) = decide (x.toInt ≤ n) := by
  rw [BitVec.sle_eq_decide, toInt_ofNat h]

theorem ofNat_sle {x : BitVec 32} {n : ℕ} (h : n < 2147483648) : (BitVec.ofNat 32 n).sle x = decide ((n : ℤ) ≤ x.toInt) := by
  rw [BitVec.sle_eq_decide, toInt_ofNat h]

theorem slt_ofNat {a b : ℕ} (ha : a < 2147483648) (hb : b < 2147483648) :
    (BitVec.ofNat 32 a).slt (BitVec.ofNat 32 b) = decide (a < b) := by
  rw [BitVec.slt_eq_decide, toInt_ofNat ha, toInt_ofNat hb]
  simp

/-! ## The two-level walk over the positions -/

/-- Position `l` of chunk `h`. -/
abbrev cell (h : Fin 32) (l : Fin 128) : Fin 4096 := ⟨h.val * 128 + l.val, by omega⟩

/-- The chunk and the place in it, of a position. -/
theorem cell_surj (n : Fin 4096) : ∃ h l, cell h l = n :=
  ⟨⟨n.val / 128, by omega⟩, ⟨n.val % 128, by omega⟩, Fin.ext (by show n.val / 128 * 128 + n.val % 128 = n.val; omega)⟩

theorem cell_inj {h h' : Fin 32} {l l' : Fin 128} (e : cell h l = cell h' l') : h = h' ∧ l = l' := by
  have e : h.val * 128 + l.val = h'.val * 128 + l'.val := congrArg Fin.val e
  exact ⟨Fin.ext (by omega), Fin.ext (by omega)⟩

/-- The positions as chunks and places. -/
def cellEquiv : Fin 32 × Fin 128 ≃ Fin 4096 :=
  Equiv.ofBijective (fun p => cell p.1 p.2)
    ⟨fun p q e => Prod.ext (cell_inj e).1 (cell_inj e).2, fun n => by
      obtain ⟨h, l, e⟩ := cell_surj n; exact ⟨(h, l), e⟩⟩

theorem sum_cells (f : Fin 4096 → EReal) : ∑ h : Fin 32, ∑ l : Fin 128, f (cell h l) = ∑ n, f n := by
  rw [← Fintype.sum_prod_type' (f := fun h l => f (cell h l))]
  exact cellEquiv.sum_comp f

theorem sup_cells (f : Fin 4096 → EReal) :
    (Finset.univ.sup fun h : Fin 32 => Finset.univ.sup fun l : Fin 128 => f (cell h l)) = Finset.univ.sup f := by
  refine le_antisymm (Finset.sup_le fun h _ => Finset.sup_le fun l _ => Finset.le_sup (Finset.mem_univ _)) ?_
  refine Finset.sup_le fun n _ => ?_
  obtain ⟨h, l, rfl⟩ := cell_surj n
  exact le_trans (Finset.le_sup (f := fun l : Fin 128 => f (cell h l)) (Finset.mem_univ l))
    (Finset.le_sup (f := fun h : Fin 32 => Finset.univ.sup fun l : Fin 128 => f (cell h l)) (Finset.mem_univ h))

/-- A maximum from minus infinity is the supremum. -/
theorem fold_max {ι : Type} (s : Finset ι) (f : ι → EReal) : s.fold max (⊥ : EReal) f = s.sup f := rfl

/-! ## One-hot sums -/

theorem sum_onehot {ι : Type} [Fintype ι] [DecidableEq ι] (p : ι → Prop) [DecidablePred p] (k : ι) (hp : ∀ i, p i ↔ i = k) (f : ι → EReal) :
    ∑ i, (if p i then (1 : EReal) else 0) * f i = f k := by
  rw [Finset.sum_eq_single k]
  · rw [if_pos ((hp k).mpr rfl), one_mul]
  · intro i _ hi
    rw [if_neg (fun h => hi ((hp i).mp h)), zero_mul]
  · intro h; exact absurd (Finset.mem_univ k) h

/-! ## The position encoding and the normalization -/

theorem exp_log_eq_pow (r : EReal) (y : ℝ) (hr : r = (y : EReal)) :
    Ideal.exp (Scalar.log (Ideal.ofBits FTy.f32 1109393408#32 : Ideal .f32) * r) = Ideal.pow (Ideal.ofBits FTy.f32 1109393408#32) r := by
  rw [hr, c_40]
  show Ideal.exp (Ideal.log ((40 : ℝ) : EReal) * (y : EReal)) = ((Real.rpow 40 y : ℝ) : EReal)
  rw [Ideal.log_coe, if_neg (by norm_num), ← EReal.coe_mul, Ideal.exp_coe]
  congr 1
  exact (Real.rpow_def_of_pos (by norm_num) y).symm

theorem mul_rsqrt (z v : EReal) (hv : 0 < v) : z * Ideal.rsqrt v = Ideal.div z (Ideal.sqrt v) := by
  induction v using EReal.rec with
  | bot => exact absurd hv (by simp)
  | top =>
    rw [Ideal.rsqrt_top, Ideal.sqrt_top, Ideal.div, if_neg (by simp)]
    rw [EReal.inv_top]
  | coe r =>
    have hr : 0 < r := by exact_mod_cast hv
    have hs : 0 < Real.sqrt r := Real.sqrt_pos.mpr hr
    rw [Ideal.rsqrt_coe, if_neg (by linarith), if_neg (by linarith), Ideal.sqrt_coe, if_neg (by linarith), Ideal.div,
      if_neg (by exact_mod_cast hs.ne'), EReal.coe_inv]

theorem mul_self_nonneg' (z : EReal) : 0 ≤ z * z := by
  induction z using EReal.rec with
  | bot => simp
  | top => simp
  | coe r => exact_mod_cast mul_self_nonneg r

theorem var_pos (y : Fin 128 → EReal) :
    0 < meanS (fun k => centS y k * centS y k) + Ideal.ofBits FTy.f32 981668463#32 := by
  obtain ⟨r, hr, he⟩ := c_eps
  have hm : 0 ≤ meanS (fun k => centS y k * centS y k) := by
    rw [meanS, c_128, Ideal.div, if_neg (by norm_num)]
    refine mul_nonneg (Finset.sum_nonneg fun k _ => mul_self_nonneg' _) ?_
    rw [← EReal.coe_inv]; norm_num
  rw [he]
  refine lt_of_lt_of_le (b := (r : EReal)) (by exact_mod_cast hr) ?_
  exact le_add_of_nonneg_left hm

theorem norm_eq (y ga be : Fin 128 → EReal) (e : Fin 128) :
    centS y e * Ideal.rsqrt (meanS (fun k => centS y k * centS y k) + Ideal.ofBits FTy.f32 981668463#32) * ga e + be e = normS y ga be e := by
  rw [mul_rsqrt _ _ (var_pos y)]; rfl

end Cert.Spec

end
-- ==== Proof.KBlocks.lean ====
/- What the kernel does for one batch after the selection: the selected rows, their gate, their normalization.

The program writes the same computation once per batch; each of the eight texts is one function of that batch's blocks. -/
module

public import proofs.«01_k».proof.Proof.Gen.KernelIdeal.Value
public import proofs.«01_k».proof.Proof.Words
public import Idealize.ShloMosaic.Lib.Pointwise
public import Idealize.ShloMosaic.Lib.Pipeline.ValueKit
public import Idealize.ShloMosaic.Lib.ValueIdx

@[expose] public section
set_option maxRecDepth 16384
noncomputable section

namespace Cert.KernelIdeal.Hand
open Idealize.ShloMosaic Idealize.ShloMosaic.TcCoe Idealize.SL.Sem
open Idealize.ShloMosaic.Pointwise
open Cert.KernelIdeal Cert.KernelIdeal.Gen
open Cert.Spec

/-- A gathered row and its position encoding. -/
def rowBlk (oh : FVec Ideal S64x4096 .f32) (fs : FVec Ideal S64x1 .f32) (xb : FVec Ideal S1x4096x128 .f32) (pe : FVec Ideal S1x128 .f32) : FVec Ideal S64x128x1 .f32 :=
  shapeCast S64x128x1
    (addf (matmul dot_S64x4096_S4096x128_S64x128_1_0_0_1_n_n (some .fp32) oh (shapeCast S4096x128 xb shapeCasts_S1x4096x128_S4096x128)
        (constant S64x128 .f32 0x00000000#32))
      (sin (divf (broadcastTo S64x128 fs broadcasts_S64x1_S64x128) (broadcastTo S64x128 pe broadcasts_S1x128_S64x128))))
    shapeCasts_S64x128_S64x128x1

/-- The rows projected, gated and weighted. -/
def gateBlk (o : FVec Ideal S64x128x1 .f32) (w g : FVec Ideal S64x128x128 .f32) (fw : FVec Ideal S64x1 .f32) : FVec Ideal S64x128 .f32 :=
  mulf
    (mulf
      (multiReduction .add [1] S64x128 (mulf (broadcastTo S64x128x128 o broadcasts_S64x128x1_S64x128x128) (shapeCast S64x128x128 w shapeCasts_S64x128x128_S64x128x128)) 0x00000000#32 reduces_S64x128x128_S64x128 (.inl rfl) rfl)
      (logistic (multiReduction .add [1] S64x128 (mulf (broadcastTo S64x128x128 o broadcasts_S64x128x1_S64x128x128) g) 0x00000000#32 reduces_S64x128x128_S64x128 (.inl rfl) rfl)))
    (broadcastTo S64x128 fw broadcasts_S64x1_S64x128)

/-- The mean over a row, as a column. -/
def meanBlk (y : FVec Ideal S64x128 .f32) : FVec Ideal S64x1 .f32 :=
  divf (shapeCast S64x1 (multiReduction .add [1] S64 y 0x00000000#32 reduces_S64x128_S64 (.inl rfl) rfl) shapeCasts_S64_S64x1)
    (broadcast S64x1 (Scalar.ofBits .f32 0x43000000#32))

/-- A row less its mean. -/
def centBlk (y : FVec Ideal S64x128 .f32) : FVec Ideal S64x128 .f32 :=
  subf y (broadcastTo S64x128 (meanBlk y) broadcasts_S64x1_S64x128)

/-- The normalized rows. -/
def normBlk (y : FVec Ideal S64x128 .f32) (ga be : FVec Ideal S1x128 .f32) : FVec Ideal S1x64x128 .f32 :=
  shapeCast S1x64x128
    (addf
      (mulf
        (mulf (centBlk y)
          (broadcastTo S64x128 (rsqrt (addf (meanBlk (mulf (centBlk y) (centBlk y))) (broadcast S64x1 (Scalar.ofBits .f32 0x3A83126F#32)))) broadcasts_S64x1_S64x128))
        (broadcastTo S64x128 (shapeCast S1x128 ga shapeCasts_S1x128_S1x128) broadcasts_S1x128_S64x128))
      (broadcastTo S64x128 (shapeCast S1x128 be shapeCasts_S1x128_S1x128) broadcasts_S1x128_S64x128))
    shapeCasts_S64x128_S1x64x128
/-- One batch: the one-hot rows, the selected positions and the weights of the batch, its values, and the parameters. -/
def batchBlk (oh : FVec Ideal S1x64x4096 .f32) (r v : FVec Ideal S1x64x1 .f32) (x : FVec Ideal S1x4096x128 .f32) (w g : FVec Ideal S64x128x128 .f32)
    (ga be : FVec Ideal S1x128 .f32) : FVec Ideal S1x64x128 .f32 :=
  normBlk (gateBlk (rowBlk (shapeCast S64x4096 oh shapeCasts_S1x64x4096_S64x4096) (shapeCast S64x1 r shapeCasts_S1x64x1_S64x1) x k0_pay35) w g
    (shapeCast S64x1 v shapeCasts_S1x64x1_S64x1)) ga be

section
variable (f : FVec Ideal S8x1x64 .f32) (r v : FVec Ideal S8x64x1 .f32) (o : FVec Ideal S8x64x4096 .f32) (x : FVec Ideal S1x4096x128 .f32)
  (w g : FVec Ideal S64x128x128 .f32) (ga be : FVec Ideal S1x128 .f32)

theorem batch0 : k0_pay38 (F := Ideal) v (k0_pay36 (F := Ideal) f x) (k0_pay37 (F := Ideal) f x w) g ga be
    = batchBlk (extractStridedSlice S1x64x4096 ![0, 0, 0] (k0_pay34 f) slices_S8x64x4096_o0_0_0_S1x64x4096) (extractStridedSlice S1x64x1 ![0, 0, 0] (k0_pay31 f) slices_S8x64x1_o0_0_0_S1x64x1)
      (extractStridedSlice S1x64x1 ![0, 0, 0] v slices_S8x64x1_o0_0_0_S1x64x1) x w g ga be := rfl
theorem batch1 : k0_pay43 (F := Ideal) (k0_pay41 (F := Ideal) r v k0_pay35 (k0_pay39 (F := Ideal) o) (k0_pay40 (F := Ideal) x) (constant S64x128 FTy.f32 0#32) w g) (k0_pay42 (F := Ideal) ga) be
    = batchBlk (extractStridedSlice S1x64x4096 ![1, 0, 0] o slices_S8x64x4096_o1_0_0_S1x64x4096) (extractStridedSlice S1x64x1 ![1, 0, 0] r slices_S8x64x1_o1_0_0_S1x64x1)
      (extractStridedSlice S1x64x1 ![1, 0, 0] v slices_S8x64x1_o1_0_0_S1x64x1) x w g ga be := rfl
theorem batch2 : k0_pay46 (F := Ideal) (k0_pay44 (F := Ideal) r v o k0_pay35 x w g) (k0_pay45 (F := Ideal) r v o k0_pay35 x w g) ga be
    = batchBlk (extractStridedSlice S1x64x4096 ![2, 0, 0] o slices_S8x64x4096_o2_0_0_S1x64x4096) (extractStridedSlice S1x64x1 ![2, 0, 0] r slices_S8x64x1_o2_0_0_S1x64x1)
      (extractStridedSlice S1x64x1 ![2, 0, 0] v slices_S8x64x1_o2_0_0_S1x64x1) x w g ga be := rfl
theorem batch3 : k0_pay49 (F := Ideal) v (k0_pay47 (F := Ideal) r o k0_pay35 x) (k0_pay48 (F := Ideal) r o k0_pay35 x w) g ga be
    = batchBlk (extractStridedSlice S1x64x4096 ![3, 0, 0] o slices_S8x64x4096_o3_0_0_S1x64x4096) (extractStridedSlice S1x64x1 ![3, 0, 0] r slices_S8x64x1_o3_0_0_S1x64x1)
      (extractStridedSlice S1x64x1 ![3, 0, 0] v slices_S8x64x1_o3_0_0_S1x64x1) x w g ga be := rfl
theorem batch4 : k0_pay55 (F := Ideal) (k0_pay53 (F := Ideal) r v k0_pay35 (k0_pay50 (F := Ideal) o) x w g) (k0_pay54 (F := Ideal) r v k0_pay35 (k0_pay50 (F := Ideal) o) x w g) ga be
    = batchBlk (extractStridedSlice S1x64x4096 ![4, 0, 0] o slices_S8x64x4096_o4_0_0_S1x64x4096) (extractStridedSlice S1x64x1 ![4, 0, 0] r slices_S8x64x1_o4_0_0_S1x64x1)
      (extractStridedSlice S1x64x1 ![4, 0, 0] v slices_S8x64x1_o4_0_0_S1x64x1) x w g ga be := rfl
theorem batch5 : k0_pay57 (F := Ideal) (k0_pay56 (F := Ideal) r v o k0_pay35 x w g) ga be
    = batchBlk (extractStridedSlice S1x64x4096 ![5, 0, 0] o slices_S8x64x4096_o5_0_0_S1x64x4096) (extractStridedSlice S1x64x1 ![5, 0, 0] r slices_S8x64x1_o5_0_0_S1x64x1)
      (extractStridedSlice S1x64x1 ![5, 0, 0] v slices_S8x64x1_o5_0_0_S1x64x1) x w g ga be := rfl
theorem batch6 : k0_pay60 (F := Ideal) (k0_pay59 (F := Ideal) v (k0_pay58 (F := Ideal) r o k0_pay35 x) w g ga be)
    = batchBlk (extractStridedSlice S1x64x4096 ![6, 0, 0] o slices_S8x64x4096_o6_0_0_S1x64x4096) (extractStridedSlice S1x64x1 ![6, 0, 0] r slices_S8x64x1_o6_0_0_S1x64x1)
      (extractStridedSlice S1x64x1 ![6, 0, 0] v slices_S8x64x1_o6_0_0_S1x64x1) x w g ga be := rfl
theorem batch7 : k0_pay1 (F := Ideal) (k0_pay61 (F := Ideal) r v o k0_pay35 x w g) (k0_pay63 (F := Ideal) r v o k0_pay35 x w g) (k0_pay64 (F := Ideal) r v o k0_pay35 x w g) ga be
    = batchBlk (extractStridedSlice S1x64x4096 ![7, 0, 0] o slices_S8x64x4096_o7_0_0_S1x64x4096) (extractStridedSlice S1x64x1 ![7, 0, 0] r slices_S8x64x1_o7_0_0_S1x64x1)
      (extractStridedSlice S1x64x1 ![7, 0, 0] v slices_S8x64x1_o7_0_0_S1x64x1) x w g ga be := rfl

end

theorem pay35_at (e : Fin 128) : k0_pay35 (F := Ideal) (ix2 0 e) = peS e := by
  pointwise [k0_pay35]
  rw [sitofp_ofNat (by omega)]
  rw [exp_log_eq_pow _ ((e : ℝ) / 128)]
  · rfl
  · rw [c_128, Ideal.div_coe (by norm_num), ← EReal.coe_mul, mul_one_div]

theorem rowBlk_at (oh : FVec Ideal S64x4096 .f32) (fs : FVec Ideal S64x1 .f32) (x : FVec Ideal S1x4096x128 .f32) (k : Fin 64) (u : Fin 4096) (e : Fin 128)
    (ho : ∀ n, oh (ix2 k n) = if n = u then (1 : EReal) else 0) (hf : fs (ix2 k 0) = ((u.val : ℝ) : EReal)) :
    rowBlk oh fs x k0_pay35 (ix3 k e 0) = rowS (fun n a => x (ix3 0 n a)) u e := by
  pointwise [rowBlk]
  simp only [ho]
  rw [sum_onehot _ u (fun _ => Iff.rfl), hf, pay35_at]; rfl

theorem gateBlk_at (o : FVec Ideal S64x128x1 .f32) (w g : FVec Ideal S64x128x128 .f32) (v : FVec Ideal S64x1 .f32) (k : Fin 64) (e : Fin 128)
    (row : Fin 128 → EReal) (ho : ∀ a, o (ix3 k a 0) = row a) :
    gateBlk o w g v (ix2 k e) = gateS row (fun a e => w (ix3 k a e)) (fun a e => g (ix3 k a e)) (v (ix2 k 0)) e := by
  pointwise [gateBlk]
  simp only [ho]; rfl

theorem normBlk_at (y : FVec Ideal S64x128 .f32) (ga be : FVec Ideal S1x128 .f32) (k : Fin 64) (e : Fin 128) (row : Fin 128 → EReal)
    (hy : ∀ a, y (ix2 k a) = row a) :
    normBlk y ga be (ix3 0 k e) = normS row (fun a => ga (ix2 0 a)) (fun a => be (ix2 0 a)) e := by
  rw [← norm_eq]
  pointwise [normBlk, centBlk, meanBlk]
  simp only [hy]; rfl

/-- One batch, entry by entry. -/
theorem batchBlk_at (oh : FVec Ideal S1x64x4096 .f32) (r v : FVec Ideal S1x64x1 .f32) (x : FVec Ideal S1x4096x128 .f32) (w g : FVec Ideal S64x128x128 .f32)
    (ga be : FVec Ideal S1x128 .f32) (k : Fin 64) (u : Fin 4096) (e : Fin 128)
    (ho : ∀ n, oh (ix3 0 k n) = if n = u then (1 : EReal) else 0) (hr : r (ix3 0 k 0) = ((u.val : ℝ) : EReal)) :
    batchBlk oh r v x w g ga be (ix3 0 k e)
      = normS (gateS (rowS (fun n a => x (ix3 0 n a)) u) (fun a e => w (ix3 k a e)) (fun a e => g (ix3 k a e)) (v (ix3 0 k 0)))
          (fun a => ga (ix2 0 a)) (fun a => be (ix2 0 a)) e := by
  refine normBlk_at _ ga be k e _ fun a => ?_
  refine (gateBlk_at _ w g _ k a _ fun a' => rowBlk_at _ _ x k u a' (fun n => ?_) ?_).trans ?_
  · refine Eq.trans ?_ (ho n); pointwise
  · refine Eq.trans ?_ hr; pointwise
  · congr 1; pointwise

end Cert.KernelIdeal.Hand

end
-- ==== Proof.KAtt.lean ====
/- The kernel's logits, gathered batch by batch in its scratch buffer, and the attention it makes of them. -/
module

public import proofs.«01_k».proof.Proof.Gen.KernelIdeal.Value
public import proofs.«01_k».proof.Proof.Words
public import Idealize.ShloMosaic.Lib.Pointwise
public import Idealize.ShloMosaic.Lib.Pipeline.ValueKit
public import Idealize.ShloMosaic.Lib.ValueIdx

@[expose] public section
set_option maxRecDepth 16384
noncomputable section

namespace Cert.KernelIdeal.Hand
open Idealize.ShloMosaic Idealize.ShloMosaic.TcCoe Idealize.SL.Sem
open Idealize.ShloMosaic.Pointwise
open Cert.KernelIdeal Cert.KernelIdeal.Gen
open Cert.Spec

section
variable (bc : FVec Ideal S1x1x128 .f32) (wq wk : FVec Ideal S128x128 .f32) (x : FVec Ideal S1x4096x128 .f32) (h : Fin 32) (l : Fin 128)

/-- The logits of one batch, of its values `x`. -/
abbrev lgB (n : Fin 4096) : EReal :=
  lgS (fun n k => x (ix3 0 n k)) (qS (fun k => bc (ix3 0 0 k)) (fun k e => wq (ix2 k e))) (fun k e => wk (ix2 k e)) n

theorem lg0 : k0_pay4 (F := Ideal) bc wq x wk (ix3 0 h l) = lgB bc wq wk x (cell h l) := by pointwise [k0_pay4, k0_pay2, k0_pay3]; rfl
theorem lg1 : k0_pay5 (F := Ideal) bc wq x wk (ix3 0 h l) = lgB bc wq wk x (cell h l) := by pointwise [k0_pay5, k0_pay2, k0_pay3]; rfl
theorem lg2 : k0_pay6 (F := Ideal) (k0_pay2 bc wq) k0_pay3 x wk (ix3 0 h l) = lgB bc wq wk x (cell h l) := by pointwise [k0_pay6, k0_pay2, k0_pay3]; rfl
theorem lg3 : k0_pay7 (F := Ideal) (k0_pay2 bc wq) k0_pay3 x wk (ix3 0 h l) = lgB bc wq wk x (cell h l) := by pointwise [k0_pay7, k0_pay2, k0_pay3]; rfl
theorem lg4 : k0_pay9 (F := Ideal) (k0_pay8 (k0_pay2 bc wq) k0_pay3 x wk) (ix3 0 h l) = lgB bc wq wk x (cell h l) := by
  pointwise [k0_pay9, k0_pay8, k0_pay2, k0_pay3]; rfl
theorem lg5 : k0_pay10 (F := Ideal) (k0_pay2 bc wq) k0_pay3 x wk (ix3 0 h l) = lgB bc wq wk x (cell h l) := by pointwise [k0_pay10, k0_pay2, k0_pay3]; rfl
theorem lg6 : k0_pay11 (F := Ideal) (k0_pay2 bc wq) k0_pay3 x wk (ix3 0 h l) = lgB bc wq wk x (cell h l) := by pointwise [k0_pay11, k0_pay2, k0_pay3]; rfl
theorem lg7 : k0_pay13 (F := Ideal) (k0_pay2 bc wq) k0_pay3 (k0_pay12 x wk) (ix3 0 h l) = lgB bc wq wk x (cell h l) := by
  pointwise [k0_pay13, k0_pay12, k0_pay2, k0_pay3]; rfl
end

/-- A batch's piece of an array, found at an index of that batch. -/
theorem piece_at {n k : ℕ} (q : FVec Ideal ⟨3, ![1, n, k]⟩ .f32) (f : Fin 8 → Fin n → Fin k → EReal) (o : Fin 8) (hq : ∀ h l, q (ix3 0 h l) = f o h l)
    (x : Shape.Idx ⟨3, ![1, n, k]⟩) (b : Fin 8) (h : Fin n) (l : Fin k) (hb : b.val = o.val + (x 0).val) (hx : (x 0).val < 1) (hh : h.val = (x 1).val)
    (hl : l.val = (x 2).val) : q x = f b h l := by
  have e0 : x 0 = (0 : Fin 1) := Fin.ext (by show (x 0).val = 0; omega)
  have ex : x = ix3 (0 : Fin 1) h l := by
    funext a; fin_cases a
    · exact e0
    · exact Fin.ext hh.symm
    · exact Fin.ext hl.symm
  rw [ex, show b = o from Fin.ext (by omega)]
  exact hq h l

/-- The scratch buffer after its eight stores, entry by entry. -/
theorem scratch_at (p0 p1 p2 p3 p4 p5 p6 p7 : FVec Ideal S1x32x128 .f32) (f : Fin 8 → Fin 32 → Fin 128 → EReal)
    (h0 : ∀ h l, p0 (ix3 0 h l) = f 0 h l) (h1 : ∀ h l, p1 (ix3 0 h l) = f 1 h l) (h2 : ∀ h l, p2 (ix3 0 h l) = f 2 h l)
    (h3 : ∀ h l, p3 (ix3 0 h l) = f 3 h l) (h4 : ∀ h l, p4 (ix3 0 h l) = f 4 h l) (h5 : ∀ h l, p5 (ix3 0 h l) = f 5 h l)
    (h6 : ∀ h l, p6 (ix3 0 h l) = f 6 h l) (h7 : ∀ h l, p7 (ix3 0 h l) = f 7 h l) (LG : FVec Ideal S8x32x128 .f32)
    (hLG : (View.whole cc0_scratch0).readCov (Val := Elt Ideal)
      [⟨Rect.unit ![7, 0, 0] ![1, 32, 128] inb_S8x32x128_S1x32x128_7_0_0, p7⟩, ⟨Rect.unit ![6, 0, 0] ![1, 32, 128] inb_S8x32x128_S1x32x128_6_0_0, p6⟩,
        ⟨Rect.unit ![5, 0, 0] ![1, 32, 128] inb_S8x32x128_S1x32x128_5_0_0, p5⟩, ⟨Rect.unit ![4, 0, 0] ![1, 32, 128] inb_S8x32x128_S1x32x128_4_0_0, p4⟩,
        ⟨Rect.unit ![3, 0, 0] ![1, 32, 128] inb_S8x32x128_S1x32x128_3_0_0, p3⟩, ⟨Rect.unit ![2, 0, 0] ![1, 32, 128] inb_S8x32x128_S1x32x128_2_0_0, p2⟩,
        ⟨Rect.unit ![1, 0, 0] ![1, 32, 128] inb_S8x32x128_S1x32x128_1_0_0, p1⟩, ⟨Rect.unit ![0, 0, 0] ![1, 32, 128] inb_S8x32x128_S1x32x128_0_0_0, p0⟩]
      (Rect.unit ![0, 0, 0] ![8, 32, 128] inb_S8x32x128_S8x32x128_0_0_0).toLoadRect = LG) (b : Fin 8) (h : Fin 32) (l : Fin 128) : LG (ix3 b h l) = f b h l := by
  rw [← hLG]
  rw [View.readCov_eq_canon']
  have hidx : (Rect.unit ![0, 0, 0] ![8, 32, 128] inb_S8x32x128_S8x32x128_0_0_0 : Rect S8x32x128).toLoadRect.idx (ix3 b h l) = ix3 b h l := by
    funext a; fin_cases a <;> exact Fin.ext (by simp [ix3])
  show View.canon _ _ = _
  rw [hidx]
  canon_tiles x hx
  · exact piece_at p7 f 7 h7 x b h l hx0 x0_lt hx1 hx2
  · exact piece_at p6 f 6 h6 x b h l hx0 x0_lt hx1 hx2
  · exact piece_at p5 f 5 h5 x b h l hx0 x0_lt hx1 hx2
  · exact piece_at p4 f 4 h4 x b h l hx0 x0_lt hx1 hx2
  · exact piece_at p3 f 3 h3 x b h l hx0 x0_lt hx1 hx2
  · exact piece_at p2 f 2 h2 x b h l hx0 x0_lt hx1 hx2
  · exact piece_at p1 f 1 h1 x b h l hx0 x0_lt hx1 hx2
  · exact piece_at p0 f 0 h0 x b h l (by simpa using hx0) x0_lt hx1 hx2

/-- The attention at one position. -/
theorem pay14_at (mk lg : FVec Ideal S8x32x128 .f32) (b : Fin 8) (a p : Fin 4096 → EReal)
    (hp : ∀ h l, padS (mk (ix3 b h l)) = p (cell h l)) (ha : ∀ h l, lgaS (lg (ix3 b h l)) (p (cell h l)) = a (cell h l)) (h : Fin 32) (l : Fin 128) :
    k0_pay14 (F := Ideal) mk lg (ix3 b h l) = attS a p (cell h l) := by
  pointwise [k0_pay14]
  rw [c_neg_inf]
  simp only [fold_max]
  simp only [padS, lgaS] at ha hp
  simp only [hp, ha]
  rw [sup_cells, sum_cells (fun n => Ideal.exp (a n - Finset.univ.sup a))]
  rfl

/-- The attended barcode, before its sums are exchanged. -/
theorem pay17_at (mk lg : FVec Ideal S8x32x128 .f32) (x : FVec Ideal S8x4096x128 .f32) (wv : FVec Ideal S128x128 .f32) (b : Fin 8) (t : Fin 4096 → EReal)
    (ht : ∀ h l, k0_pay14 (F := Ideal) mk lg (ix3 b h l) = t (cell h l)) (e : Fin 128) :
    k0_pay17 (F := Ideal) (k0_pay15 x) (k0_pay16 mk lg) wv (ix2 b e) = ∑ k, (∑ n, t n * x (ix3 b n k)) * wv (ix2 k e) := by
  pointwise [k0_pay17, k0_pay15, k0_pay16]
  simp only [ht]
  refine Finset.sum_congr rfl fun k _ => ?_
  rw [← sum_cells (fun n => t n * x (ix3 b n k))]

end Cert.KernelIdeal.Hand

end
-- ==== Proof.KLoop.lean ====
/- The kernel's selection loop: sixty-four times the first largest score is taken and the scores near it are struck out. -/
module

public import proofs.«01_k».proof.Proof.Gen.KernelIdeal.Value
public import proofs.«01_k».proof.Proof.Words
public import Idealize.ShloMosaic.Lib.Pointwise
public import Idealize.ShloMosaic.Lib.Pipeline.ValueKit
public import Idealize.ShloMosaic.Lib.ValueIdx

@[expose] public section
set_option maxRecDepth 16384
noncomputable section

namespace Cert.KernelIdeal.Hand
open Idealize.ShloMosaic Idealize.ShloMosaic.TcCoe Idealize.SL.Sem
open Idealize.ShloMosaic.Pointwise
open Cert.KernelIdeal Cert.KernelIdeal.Gen
open Cert.Spec Cert.Sel

/-- A property that every trip carries one further holds after all trips. -/
theorem fold_carry {σ : Type} : ∀ {n : ℕ} (g : Fin n → σ → σ) (Inv : ℕ → σ → Prop) (init : σ), Inv 0 init →
    (∀ k s, Inv k.val s → Inv (k.val + 1) (g k s)) → Inv n (Scf.fold g init)
  | 0, g, Inv, init, h0, _ => by rw [Scf.fold_eq]; exact h0
  | n + 1, g, Inv, init, h0, hs => by
    have ih := fold_carry (fun k : Fin n => g k.castSucc) Inv init h0 fun k s h => hs k.castSucc s h
    rw [Scf.fold_eq] at ih ⊢
    rw [List.finRange_succ_last, List.foldl_append, List.foldl_map]
    exact hs (Fin.last n) _ ih

theorem toInt_minsi (x y : BitVec 32) : (IntOp.minsi x y).toInt = min x.toInt y.toInt := by
  show (if x.slt y then x else y).toInt = _
  rw [BitVec.slt_eq_decide]
  by_cases h : x.toInt < y.toInt
  · rw [if_pos (decide_eq_true h), min_eq_left h.le]
  · rw [if_neg (by simpa using h), min_eq_right (not_lt.mp h)]

theorem toInt_fold_minsi {ι : Type} (s : Finset ι) (z : BitVec 32) (f : ι → BitVec 32) :
    (s.fold IntOp.minsi z f).toInt = s.fold min z.toInt fun i => (f i).toInt :=
  (Finset.fold_hom (m := BitVec.toInt) (op := IntOp.minsi) (op' := min) (fun x y => toInt_minsi x y)).symm

/-- The smallest of the positions that hold the largest score is the pick. -/
theorem min_pos (e : Fin 32 → Fin 128 → EReal) (s : Fin 4096 → EReal) (he : ∀ h l, e h l = s (cell h l)) :
    Finset.univ.fold IntOp.minsi 2147483647#32 (fun h : Fin 32 => Finset.univ.fold IntOp.minsi 2147483647#32 fun l : Fin 128 =>
      if e h l = s (pickOf s) then BitVec.ofNat 32 (cell h l).val else 1073741824#32) = BitVec.ofNat 32 (pickOf s).val := by
  have hz : (2147483647#32).toInt = 2147483647 := by decide
  have hw : (1073741824#32).toInt = 1073741824 := by decide
  have hn : ∀ n : Fin 4096, (BitVec.ofNat 32 n.val).toInt = (n.val : ℤ) := fun n => toInt_ofNat (by omega)
  refine BitVec.eq_of_toInt_eq ?_
  rw [hn, toInt_fold_minsi]
  simp only [toInt_fold_minsi]
  rw [hz]
  refine le_antisymm ?_ ?_
  · obtain ⟨h, l, hc⟩ := cell_surj (pickOf s)
    refine (Finset.fold_min_le _).mpr (.inr ⟨h, Finset.mem_univ _, (Finset.fold_min_le _).mpr (.inr ⟨l, Finset.mem_univ _, ?_⟩)⟩)
    rw [he, hc, if_pos rfl, ← hn, ← hc]
  · refine (Finset.le_fold_min _).mpr ⟨by omega, fun h _ => (Finset.le_fold_min _).mpr ⟨by omega, fun l _ => ?_⟩⟩
    by_cases hm : e h l = s (pickOf s)
    · rw [if_pos hm, hn (cell h l)]
      rw [he] at hm
      exact_mod_cast pickOf_le s (cell h l) hm.ge
    · rw [if_neg hm, hw]; omega

theorem pay18_at (h : Fin 32) (l : Fin 128) : k0_pay18 (ix3 0 h l) = BitVec.ofNat 32 (cell h l).val := by
  pointwise [k0_pay18]
  show BitVec.ofNat 32 h.val * 128#32 + BitVec.ofNat 32 l.val = BitVec.ofNat 32 (h.val * 128 + l.val)
  rw [BitVec.ofNat_add, BitVec.ofNat_mul]

section
variable (e : FVec Ideal S8x32x128 .f32) (b : Fin 8) (s : Fin 4096 → EReal) (he : ∀ h l, e (ix3 b h l) = s (cell h l))
include he

theorem pay21_at : k0_pay21 (F := Ideal) e (ix3 b 0 0) = s (pickOf s) := by
  pointwise [k0_pay21]
  rw [c_neg_inf]
  simp only [fold_max, he]
  rw [sup_cells]
  exact le_antisymm (Finset.sup_le fun n _ => le_pickOf s n) (Finset.le_sup (Finset.mem_univ _))

theorem pay22_at : k0_pay22 (F := Ideal) e (ix3 b 0 0) = BitVec.ofNat 32 (pickOf s).val := by
  rw [← min_pos (fun h l => e (ix3 b h l)) s he]
  pointwise [k0_pay22]
  simp only [pay21_at e b s he, pay18_at]

theorem pay25_at (h : Fin 32) (l : Fin 128) :
    k0_pay25 (F := Ideal) e (ix3 b h l) = if Near (cell h l) (pickOf s) then mark else s (cell h l) := by
  pointwise [k0_pay25]
  rw [pay22_at e b s he, pay18_at, he]
  have hd : IntOp.cmpi .sle (IntOp.absi (IntOp.subi (BitVec.ofNat 32 (cell h l).val) (BitVec.ofNat 32 (pickOf s).val))) 3#32
      = BitVec.ofBool (decide (Near (cell h l) (pickOf s))) := by
    show BitVec.ofBool (BitVec.sle _ (BitVec.ofNat 32 3)) = _
    rw [sle_ofNat (by omega), toInt_absdiff (cell h l).isLt (pickOf s).isLt]
    congr 1
    refine decide_eq_decide.mpr ?_
    rw [abs_le]
    show _ ↔ (cell h l).val ≤ (pickOf s).val + 3 ∧ (pickOf s).val ≤ (cell h l).val + 3
    omega
  rw [hd, select_bool]; rfl
end

/-- What the loop carries before trip `j`. -/
def Sofar (att : Fin 8 → Fin 4096 → EReal) (j : ℕ) (st : FVec Ideal S8x32x128 .f32 × IVec S8x1x64 32 × FVec Ideal S8x1x64 .f32) : Prop :=
  (∀ b h l, st.1 (ix3 b h l) = scoreAt mark (att b) j (cell h l))
    ∧ (∀ b (k : Fin 64), k.val < j → st.2.1 (ix3 b 0 k) = BitVec.ofNat 32 (pick mark (att b) k).val)
    ∧ ∀ b (k : Fin 64), k.val < j → st.2.2 (ix3 b 0 k) = scoreAt mark (att b) k (pick mark (att b) k)

theorem iv_at (t : ℕ) : Scf.iv 0#32 1#32 t = BitVec.ofNat 32 t := by
  show 0#32 + BitVec.ofNat 32 t * 1#32 = _
  simp

theorem lane_at (k : Fin 64) (t : ℕ) (ht : t < 64) : IntOp.cmpi .eq (BitVec.ofNat 32 k.val) (Scf.iv 0#32 1#32 t) = BitVec.ofBool (decide (k.val = t)) := by
  rw [iv_at, cmpi_eq_ofNat (by omega) (by omega)]

theorem sofar_step (att : Fin 8 → Fin 4096 → EReal) (t : Fin k0_t1_loop.trips) (st : FVec Ideal S8x32x128 .f32 × IVec S8x1x64 32 × FVec Ideal S8x1x64 .f32)
    (h : Sofar att t.val st) : Sofar att (t.val + 1) (k0_pay25 st.1, k0_pay23 t st.1 st.2.1, k0_pay24 t st.1 st.2.2) := by
  obtain ⟨h1, h2, h3⟩ := h
  have ht : t.val < 64 := t.isLt
  refine ⟨fun b x l => pay25_at st.1 b _ (h1 b) x l, fun b k hk => ?_, fun b k hk => ?_⟩
  · show k0_pay23 (F := Ideal) t st.1 st.2.1 (ix3 b 0 k) = _
    pointwise [k0_pay23]
    rw [lane_at k t.val ht, select_bool, pay22_at st.1 b _ (h1 b)]
    by_cases hkt : k.val = t.val
    · rw [if_pos hkt, hkt]; rfl
    · rw [if_neg hkt]; exact h2 b k (by omega)
  · show k0_pay24 (F := Ideal) t st.1 st.2.2 (ix3 b 0 k) = _
    pointwise [k0_pay24]
    rw [lane_at k t.val ht, select_bool, pay21_at st.1 b _ (h1 b)]
    by_cases hkt : k.val = t.val
    · rw [if_pos hkt, hkt]; rfl
    · rw [if_neg hkt]; exact h3 b k (by omega)

/-- After the loop the lanes hold the picks and their scores. -/
theorem loop_at (att : Fin 8 → Fin 4096 → EReal) (hatt : ∀ b a, mark < att b a) (a : FVec Ideal S8x32x128 .f32) (ha : ∀ b h l, a (ix3 b h l) = att b (cell h l))
    (s0 : FVec Ideal S8x32x128 .f32) (s : IVec S8x1x64 32) (w : FVec Ideal S8x1x64 .f32)
    (hR : Scf.fold (fun (t : Fin k0_t1_loop.trips) (st : FVec Ideal S8x32x128 .f32 × IVec S8x1x64 32 × FVec Ideal S8x1x64 .f32) =>
      (k0_pay25 st.1, k0_pay23 t st.1 st.2.1, k0_pay24 t st.1 st.2.2)) (a, k0_pay19, k0_pay20) = (s0, s, w)) (b : Fin 8) (k : Fin 64) :
    s (ix3 b 0 k) = BitVec.ofNat 32 (pickS (att b) k).val ∧ w (ix3 b 0 k) = att b (pickS (att b) k) := by
  have h := fold_carry _ (Sofar att) (a, k0_pay19, k0_pay20) ⟨ha, fun b k hk => absurd hk (by omega), fun b k hk => absurd hk (by omega)⟩
    fun t st h => sofar_step att t st h
  rw [hR] at h
  have hk : k.val < k0_t1_loop.trips := k.isLt
  exact ⟨h.2.1 b k hk, (h.2.2 b k hk).trans (score_pick (hatt b) (by omega))⟩

end Cert.KernelIdeal.Hand

end
-- ==== Proof.KRank.lean ====
/- The kernel's sort of its sixty-four picks: each pick's rank is a count of comparisons, and one-hot sums bring it there. -/
module

public import proofs.«01_k».proof.Proof.Gen.KernelIdeal.Value
public import proofs.«01_k».proof.Proof.Words
public import proofs.«01_k».proof.Proof.Rank
public import Idealize.ShloMosaic.Lib.Pointwise
public import Idealize.ShloMosaic.Lib.Pipeline.ValueKit
public import Idealize.ShloMosaic.Lib.ValueIdx

@[expose] public section
set_option maxRecDepth 16384
noncomputable section

namespace Cert.KernelIdeal.Hand
open Idealize.ShloMosaic Idealize.ShloMosaic.TcCoe Idealize.SL.Sem
open Idealize.ShloMosaic.Pointwise
open Cert.KernelIdeal Cert.KernelIdeal.Gen
open Cert.Spec Cert.Sel

/-- A count of truth values is the number of the true ones. -/
theorem sum_truths {ι : Type} [Fintype ι] (q : ι → Prop) [DecidablePred q] :
    ∑ i, (if q i then (1 : EReal) else 0) = (((Finset.univ.filter q).card : ℝ) : EReal) := by
  rw [Finset.sum_boole]; norm_cast

theorem real_lt {a b : ℕ} : (((a : ℝ) : EReal) < ((b : ℝ) : EReal)) ↔ a < b := by norm_cast
theorem real_eq {a b : ℕ} : (((a : ℝ) : EReal) = ((b : ℝ) : EReal)) ↔ a = b := by norm_cast

section
variable (s : IVec S8x1x64 32) (w : FVec Ideal S8x1x64 .f32) (b : Fin 8) (p : Fin 64 → Fin 4096) (hs : ∀ k, s (ix3 b 0 k) = BitVec.ofNat 32 (p k).val)
include hs

theorem pay26_at (k : Fin 64) : k0_pay26 (F := Ideal) s (ix3 b 0 k) = (((p k).val : ℝ) : EReal) := by
  pointwise [k0_pay26]
  rw [hs, sitofp_ofNat (by omega)]

theorem pay27_at (k : Fin 64) : k0_pay27 (F := Ideal) s (ix3 b k 0) = (((p k).val : ℝ) : EReal) := by
  pointwise [k0_pay27, k0_pay26]
  rw [hs, sitofp_ofNat (by omega)]

theorem pay28_at (k a : Fin 64) : k0_pay28 (F := Ideal) s (ix3 b k a) = if rkF p k = a then (1 : EReal) else 0 := by
  pointwise [k0_pay28]
  simp only [sitofp_bool, pay26_at s b p hs, pay27_at s b p hs]
  rw [sum_truths, sitofp_ofNat (by omega)]
  refine if_congr ?_ rfl rfl
  rw [real_eq, Fin.ext_iff]
  have : (Finset.univ.filter fun x => (((p x).val : ℝ) : EReal) < (((p k).val : ℝ) : EReal)) = Finset.univ.filter fun x => p x < p k :=
    Finset.filter_congr fun x _ => real_lt
  rw [this]; rfl

variable (hp : Function.Injective p)
include hp

theorem pay29_at (a : Fin 64) : k0_pay29 (F := Ideal) s (ix3 b 0 a) = (((srt p a).val : ℝ) : EReal) := by
  obtain ⟨k, hk⟩ := rkF_surj hp a
  pointwise [k0_pay29]
  simp only [pay28_at s b p hs, pay27_at s b p hs]
  rw [sum_onehot _ k (fun i => ⟨fun h => rkF_inj hp (h.trans hk.symm), fun h => h ▸ hk⟩), srt_eq hp hk]

/-- A weight follows its pick. -/
theorem pay30_at (v : Fin 4096 → EReal) (hw : ∀ k, w (ix3 b 0 k) = v (p k)) (a : Fin 64) : k0_pay30 (F := Ideal) s w (ix3 b 0 a) = v (srt p a) := by
  obtain ⟨k, hk⟩ := rkF_surj hp a
  pointwise [k0_pay30]
  simp only [pay28_at s b p hs, hw]
  rw [sum_onehot _ k (fun i => ⟨fun h => rkF_inj hp (h.trans hk.symm), fun h => h ▸ hk⟩), srt_eq hp hk]
end

section
variable (f : FVec Ideal S8x1x64 .f32) (b : Fin 8) (u : Fin 64 → Fin 4096) (hf : ∀ k, f (ix3 b 0 k) = (((u k).val : ℝ) : EReal))
include hf

theorem pay33_at (k : Fin 64) : k0_pay33 (F := Ideal) f (ix3 b 0 k) = BitVec.ofNat 32 (u k).val := by
  pointwise [k0_pay33]
  rw [hf]; exact fptosi_nat (by omega)

theorem pay31_at (k : Fin 64) : k0_pay31 (F := Ideal) f (ix3 b k 0) = (((u k).val : ℝ) : EReal) := by
  pointwise [k0_pay31]
  exact hf k

theorem pay34_at (k : Fin 64) (n : Fin 4096) : k0_pay34 (F := Ideal) f (ix3 b k n) = if n = u k then (1 : EReal) else 0 := by
  pointwise [k0_pay34]
  rw [pay31_at f b u hf]
  rw [show FloatOps.fptosi (F := Ideal) (φ := FTy.f32) 32 (((u k).val : ℝ) : EReal) = BitVec.ofNat 32 (u k).val from fptosi_nat (by omega)]
  rw [cmpi_eq_ofNat (by omega) (by omega), sitofp_bool]
  exact if_congr ⟨fun h => Fin.ext h.symm, fun h => h ▸ rfl⟩ rfl rfl
end

theorem pay32_at (g : FVec Ideal S8x1x64 .f32) (b : Fin 8) (k : Fin 64) : k0_pay32 (F := Ideal) g (ix3 b k 0) = g (ix3 b 0 k) := by
  pointwise [k0_pay32]

end Cert.KernelIdeal.Hand

end
-- ==== Proof.KEntry.lean ====
/- What the kernel's blocks hold: its one grid point stages each argument whole. -/
module

public import proofs.«01_k».proof.Proof.Gen.KernelIdeal.Value
public import Idealize.ShloMosaic.Lib.Pointwise
public import Idealize.ShloMosaic.Lib.Pipeline.ValueKit
public import Idealize.ShloMosaic.Lib.ValueIdx
public import Idealize.ShloMosaic.Lib.Claim
public import proofs.«01_k».proof.Proof.Words

@[expose] public section
set_option maxRecDepth 16384
noncomputable section

namespace Cert.KernelIdeal.Hand
open Idealize.ShloMosaic Idealize.ShloMosaic.TcCoe Idealize.SL.Sem
open Idealize.ShloMosaic.Pointwise
open Cert.KernelIdeal Cert.KernelIdeal.Gen
open Idealize.ShloMosaic.Pipeline (Dat Cfg Window)
open Cert.Spec

variable (m : (ℓ : Loc nD τ sig) → Buf (Elt Ideal) ℓ) (c : Dev nD)

/-! Every block starts at the origin of its array. -/
theorem ix0_0 : ∀ a, win0_0.index t0_0 a = 0 := by decide +kernel
theorem ix1_0 : ∀ a, win0_1.index t0_0 a = 0 := by decide +kernel
theorem ix2_0 : ∀ a, win0_2.index t0_0 a = 0 := by decide +kernel
theorem ix3_0 : ∀ a, win0_3.index t0_0 a = 0 := by decide +kernel
theorem ix4_0 : ∀ a, win0_4.index t0_0 a = 0 := by decide +kernel
theorem ix5_0 : ∀ a, win0_5.index t0_0 a = 0 := by decide +kernel
theorem ix6_0 : ∀ a, win0_6.index t0_0 a = 0 := by decide +kernel
theorem ix7_0 : ∀ a, win0_7.index t0_0 a = 0 := by decide +kernel
theorem ix8_0 : ∀ a, win0_8.index t0_0 a = 0 := by decide +kernel
theorem ix9_0 : ∀ a, win0_9.index t0_0 a = 0 := by decide +kernel

theorem in0 (b : Fin 8) (n : Fin 4096) (k : Fin 128) : iblk m c 0 t0_0 (ix3 b n k) = m (c.tc.loc main_arg0) (ix3 b n k) := by blk_ext [iblk, V, ix0_0]
theorem in1 (b : Fin 8) (h : Fin 32) (l : Fin 128) : iblk m c 1 t0_0 (ix3 b h l) = m (c.tc.loc main_arg1) (ix2 b (cell h l)) := by
  blk_simp [iblk]; entry_read; pointwise; blk_ext [iblk, V, ix1_0]
theorem in2 (k : Fin 128) : iblk m c 2 t0_0 (ix3 0 0 k) = m (c.tc.loc main_arg2) (ix3 0 0 k) := by blk_ext [iblk, V, ix2_0]
theorem in3 (k e : Fin 128) : iblk m c 3 t0_0 (ix2 k e) = m (c.tc.loc main_arg3) (ix2 k e) := by blk_ext [iblk, V, ix3_0]
theorem in4 (k e : Fin 128) : iblk m c 4 t0_0 (ix2 k e) = m (c.tc.loc main_arg4) (ix2 k e) := by blk_ext [iblk, V, ix4_0]
theorem in5 (k e : Fin 128) : iblk m c 5 t0_0 (ix2 k e) = m (c.tc.loc main_arg5) (ix2 k e) := by blk_ext [iblk, V, ix5_0]
theorem in6 (a : Fin 64) (k e : Fin 128) : iblk m c 6 t0_0 (ix3 a k e) = m (c.tc.loc main_arg6) (ix3 a k e) := by blk_ext [iblk, V, ix6_0]
theorem in7 (a : Fin 64) (k e : Fin 128) : iblk m c 7 t0_0 (ix3 a k e) = m (c.tc.loc main_arg7) (ix4 0 a k e) := by
  blk_simp [iblk]; entry_read; pointwise; blk_ext [iblk, V, ix7_0]
theorem in8 (e : Fin 128) : iblk m c 8 t0_0 (ix2 0 e) = m (c.tc.loc main_arg8) (ix1 e) := by
  blk_simp [iblk]; entry_read; pointwise; blk_ext [iblk, V, ix8_0]
theorem in9 (e : Fin 128) : iblk m c 9 t0_0 (ix2 0 e) = m (c.tc.loc main_arg9) (ix1 e) := by
  blk_simp [iblk]; entry_read; pointwise; blk_ext [iblk, V, ix9_0]

end Cert.KernelIdeal.Hand

end
-- ==== Proof.Reals.lean ====
/- Where the inputs are real numbers: the attention is real and not negative, and the sums of the attended barcode may be exchanged. -/
module

public import proofs.«01_k».proof.Proof.Words

@[expose] public section
noncomputable section

namespace Cert.Spec
open Idealize.ShloMosaic

/-- A value that is a real number. -/
def IsReal (e : EReal) : Prop := ∃ r : ℝ, e = (r : EReal)

theorem IsReal.add {a b : EReal} (ha : IsReal a) (hb : IsReal b) : IsReal (a + b) := by
  obtain ⟨r, rfl⟩ := ha; obtain ⟨s, rfl⟩ := hb; exact ⟨r + s, (EReal.coe_add r s).symm⟩
theorem IsReal.sub {a b : EReal} (ha : IsReal a) (hb : IsReal b) : IsReal (a - b) := by
  obtain ⟨r, rfl⟩ := ha; obtain ⟨s, rfl⟩ := hb; exact ⟨r - s, (EReal.coe_sub r s).symm⟩
theorem IsReal.mul {a b : EReal} (ha : IsReal a) (hb : IsReal b) : IsReal (a * b) := by
  obtain ⟨r, rfl⟩ := ha; obtain ⟨s, rfl⟩ := hb; exact ⟨r * s, (EReal.coe_mul r s).symm⟩
theorem isReal_zero : IsReal 0 := ⟨0, rfl⟩
theorem isReal_one : IsReal 1 := ⟨1, rfl⟩

theorem coe_total {ι : Type} (s : Finset ι) (f : ι → ℝ) : ((∑ i ∈ s, f i : ℝ) : EReal) = ∑ i ∈ s, (f i : EReal) := by
  classical
  induction s using Finset.induction_on with
  | empty => rfl
  | insert a s ha ih => rw [Finset.sum_insert ha, Finset.sum_insert ha, EReal.coe_add, ih]

theorem isReal_sum {ι : Type} (s : Finset ι) {f : ι → EReal} (hf : ∀ i, IsReal (f i)) : IsReal (∑ i ∈ s, f i) := by
  choose g hg using hf
  exact ⟨∑ i ∈ s, g i, by rw [coe_total]; exact Finset.sum_congr rfl fun i _ => hg i⟩

theorem isReal_scl : IsReal sclS := by
  rw [sclS, c_128, Ideal.sqrt_coe, if_neg (by norm_num),
    Ideal.div_coe (by positivity), one_mul]
  exact ⟨_, rfl⟩

theorem padS_cases (v : EReal) : padS v = 0 ∨ padS v = 1 := by
  unfold padS; split
  · exact .inl rfl
  · exact .inr rfl

/-- The padded logit is real where the values and the projections are. -/
theorem isReal_logit {x : Fin 4096 → Fin 128 → EReal} {bc : Fin 128 → EReal} {wq wk : Fin 128 → Fin 128 → EReal} (hx : ∀ n k, IsReal (x n k))
    (hb : ∀ k, IsReal (bc k)) (hq : ∀ k e, IsReal (wq k e)) (hk : ∀ k e, IsReal (wk k e)) (v : EReal) (n : Fin 4096) :
    IsReal (lgaS (lgS x (qS bc wq) wk n) (padS v)) := by
  have hp : IsReal (padS v) := by
    rcases padS_cases v with h | h <;> rw [h]
    · exact isReal_zero
    · exact isReal_one
  obtain ⟨r, hr⟩ := c_pen
  refine IsReal.add (IsReal.mul (isReal_sum _ fun e => IsReal.mul (isReal_sum _ fun k => (hx n k).mul (hk k e)) (isReal_sum _ fun k => (hb k).mul (hq k e)))
    isReal_scl) (IsReal.mul (isReal_one.sub hp) ⟨r, hr⟩)

/-- The largest of real scores is one of them. -/
theorem sup_mem (a : Fin 4096 → EReal) : ∃ i, Finset.univ.sup a = a i := by
  obtain ⟨i, -, hi⟩ := Finset.exists_mem_eq_sup Finset.univ Finset.univ_nonempty a
  exact ⟨i, hi⟩

/-- The attention is a real number, not negative. -/
theorem att_real {a p : Fin 4096 → EReal} (ha : ∀ n, IsReal (a n)) (hp : ∀ n, p n = 0 ∨ p n = 1) (n : Fin 4096) :
    ∃ r : ℝ, 0 ≤ r ∧ attS a p n = (r : EReal) := by
  have he : ∀ j, ∃ r : ℝ, 0 < r ∧ exS a j = (r : EReal) := fun j => by
    obtain ⟨i, hi⟩ := sup_mem a
    obtain ⟨r, hr⟩ := (ha j).sub (ha i)
    exact ⟨Real.exp r, Real.exp_pos r, by rw [exS, hi, hr, Ideal.exp_coe]⟩
  choose g hg0 hg using he
  have hs : (∑ j, exS a j) = ((∑ j, g j : ℝ) : EReal) := by
    rw [coe_total]; exact Finset.sum_congr rfl fun j _ => hg j
  have hpos : 0 < ∑ j, g j := Finset.sum_pos (fun j _ => hg0 j) Finset.univ_nonempty
  have hd : Ideal.div (exS a n) (∑ j, exS a j) = ((g n * (1 / ∑ j, g j) : ℝ) : EReal) := by
    rw [hs, Ideal.div_coe hpos.ne', hg, EReal.coe_mul]
  rcases hp n with h | h
  · exact ⟨0, le_refl _, by rw [attS, h, mul_zero]; rfl⟩
  · exact ⟨g n * (1 / ∑ j, g j), mul_nonneg (hg0 n).le (one_div_pos.mpr hpos).le, by rw [attS, h, mul_one, hd]⟩

theorem mark_lt {a p : Fin 4096 → EReal} (ha : ∀ n, IsReal (a n)) (hp : ∀ n, p n = 0 ∨ p n = 1) (n : Fin 4096) : mark < attS a p n := by
  obtain ⟨r, hr, he⟩ := att_real ha hp n
  rw [he, c_mark]
  exact_mod_cast (by linarith : (-1 : ℝ) < r)

/-- Attending and then projecting is projecting and then attending, over the reals. -/
theorem bout_exchange {t : Fin 4096 → EReal} {x : Fin 4096 → Fin 128 → EReal} {wv : Fin 128 → Fin 128 → EReal} (ht : ∀ n, IsReal (t n))
    (hx : ∀ n k, IsReal (x n k)) (hw : ∀ k e, IsReal (wv k e)) (e : Fin 128) :
    ∑ k, (∑ n, t n * x n k) * wv k e = boutS t x wv e := by
  choose t' ht using ht
  choose x' hx using hx
  choose w' hw using hw
  have hl : ∑ k, (∑ n, t n * x n k) * wv k e = ((∑ k, (∑ n, t' n * x' n k) * w' k e : ℝ) : EReal) := by
    simp only [coe_total, EReal.coe_mul, ht, hx, hw]
  have hr : boutS t x wv e = ((∑ n, t' n * ∑ k, x' n k * w' k e : ℝ) : EReal) := by
    simp only [boutS, coe_total, EReal.coe_mul, ht, hx, hw]
  rw [hl, hr]
  congr 1
  simp only [Finset.sum_mul, Finset.mul_sum]
  rw [Finset.sum_comm]
  exact Finset.sum_congr rfl fun n _ => Finset.sum_congr rfl fun k _ => by ring

/-! ## The four results, of one batch's inputs -/

/-- The attention of one batch. -/
def attW (x : Fin 4096 → Fin 128 → EReal) (mk : Fin 4096 → EReal) (bc : Fin 128 → EReal) (wq wk : Fin 128 → Fin 128 → EReal) : Fin 4096 → EReal :=
  attS (fun n => lgaS (lgS x (qS bc wq) wk n) (padS (mk n))) fun n => padS (mk n)

/-- One entry of the transformed rows. -/
def rowsW (att : Fin 4096 → EReal) (x : Fin 4096 → Fin 128 → EReal) (w g : Fin 64 → Fin 128 → Fin 128 → EReal) (ga be : Fin 128 → EReal)
    (k : Fin 64) (e : Fin 128) : EReal :=
  normS (gateS (rowS x (selS att k)) (w k) (g k) (att (selS att k))) ga be e

theorem attW_real {x : Fin 4096 → Fin 128 → EReal} {mk : Fin 4096 → EReal} {bc : Fin 128 → EReal} {wq wk : Fin 128 → Fin 128 → EReal}
    (hx : ∀ n k, IsReal (x n k)) (hb : ∀ k, IsReal (bc k)) (hq : ∀ k e, IsReal (wq k e)) (hk : ∀ k e, IsReal (wk k e)) (n : Fin 4096) :
    IsReal (attW x mk bc wq wk n) := by
  obtain ⟨r, -, h⟩ := att_real (fun n => isReal_logit hx hb hq hk (mk n) n) (fun n => padS_cases (mk n)) n
  exact ⟨r, h⟩

theorem mark_lt_attW {x : Fin 4096 → Fin 128 → EReal} {mk : Fin 4096 → EReal} {bc : Fin 128 → EReal} {wq wk : Fin 128 → Fin 128 → EReal}
    (hx : ∀ n k, IsReal (x n k)) (hb : ∀ k, IsReal (bc k)) (hq : ∀ k e, IsReal (wq k e)) (hk : ∀ k e, IsReal (wk k e)) (n : Fin 4096) :
    mark < attW x mk bc wq wk n :=
  mark_lt (fun n => isReal_logit hx hb hq hk (mk n) n) (fun n => padS_cases (mk n)) n

end Cert.Spec

end
-- ==== Proof.KOut.lean ====
/- The kernel's four results, entry by entry. -/
module

public import proofs.«01_k».proof.Proof.KBlocks
public import proofs.«01_k».proof.Proof.KAtt
public import proofs.«01_k».proof.Proof.KLoop
public import proofs.«01_k».proof.Proof.KRank
public import proofs.«01_k».proof.Proof.KEntry
public import proofs.«01_k».proof.Proof.Reals

@[expose] public section
set_option maxRecDepth 16384
noncomputable section

namespace Cert.KernelIdeal.Hand
open Idealize.ShloMosaic Idealize.ShloMosaic.TcCoe Idealize.SL.Sem
open Idealize.ShloMosaic.Pointwise
open Cert.KernelIdeal Cert.KernelIdeal.Gen
open Idealize.ShloMosaic.Pipeline (Dat Cfg Window)
open Cert.Spec

variable (m : (ℓ : Loc nD τ sig) → Buf (Elt Ideal) ℓ) (c : Dev nD)

/-! ## The arguments as functions of coordinates -/

abbrev aX (b : Fin 8) (n : Fin 4096) (k : Fin 128) : EReal := m (c.tc.loc main_arg0) (ix3 b n k)
abbrev aMask (b : Fin 8) (n : Fin 4096) : EReal := m (c.tc.loc main_arg1) (ix2 b n)
abbrev aBc (k : Fin 128) : EReal := m (c.tc.loc main_arg2) (ix3 0 0 k)
abbrev aWq (k e : Fin 128) : EReal := m (c.tc.loc main_arg3) (ix2 k e)
abbrev aWk (k e : Fin 128) : EReal := m (c.tc.loc main_arg4) (ix2 k e)
abbrev aWv (k e : Fin 128) : EReal := m (c.tc.loc main_arg5) (ix2 k e)
abbrev aG (a : Fin 64) (k e : Fin 128) : EReal := m (c.tc.loc main_arg6) (ix3 a k e)
abbrev aW (a : Fin 64) (k e : Fin 128) : EReal := m (c.tc.loc main_arg7) (ix4 0 a k e)
abbrev aGa (e : Fin 128) : EReal := m (c.tc.loc main_arg8) (ix1 e)
abbrev aBe (e : Fin 128) : EReal := m (c.tc.loc main_arg9) (ix1 e)
/-- The attention of batch `b`. -/
abbrev att (b : Fin 8) : Fin 4096 → EReal := attW (aX m c b) (aMask m c b) (aBc m c) (aWq m c) (aWk m c)

/-- The inputs whose finiteness the results need. -/
structure Reals : Prop where
  x : ∀ b n k, IsReal (aX m c b n k)
  bc : ∀ k, IsReal (aBc m c k)
  wq : ∀ k e, IsReal (aWq m c k e)
  wk : ∀ k e, IsReal (aWk m c k e)
  wv : ∀ k e, IsReal (aWv m c k e)

/-- A batch's block of the values. -/
theorem ld_at (X : FVec Ideal S8x4096x128 .f32) (b : Fin 8) (inb : ∀ a, (![b.val, 0, 0] : Fin 3 → ℕ) a + (![1, 4096, 128] : Fin 3 → ℕ) a ≤ S8x4096x128.size a)
    (n : Fin 4096) (k : Fin 128) :
    (View.ld (Val := Elt Ideal) (e' := .f32) X (Rect.unit ![b.val, 0, 0] ![1, 4096, 128] inb) : FVec Ideal S1x4096x128 .f32) (ix3 0 n k) = X (ix3 b n k) := by
  rw [View.ld_apply]
  congr 1
  funext a; fin_cases a <;> exact Fin.ext (by simp [ix3])

/-- The logits of batch `b` before padding. -/
abbrev lgA (b : Fin 8) (n : Fin 4096) : EReal := lgS (aX m c b) (qS (aBc m c) (aWq m c)) (aWk m c) n

theorem lgB_of (x : FVec Ideal S1x4096x128 .f32) (b : Fin 8) (hx : ∀ n k, x (ix3 0 n k) = aX m c b n k) (n : Fin 4096) :
    lgB (iblk m c 2 t0_0) (iblk m c 3 t0_0) (iblk m c 4 t0_0) x n = lgA m c b n := by
  simp only [lgB, hx, in2, in3, in4]

/-- The scratch buffer holds every batch's logits. -/
theorem scratch_lg (x0 x1 x2 x3 x4 x5 x6 x7 : FVec Ideal S1x4096x128 .f32) (h0 : ∀ n k, x0 (ix3 0 n k) = aX m c 0 n k) (h1 : ∀ n k, x1 (ix3 0 n k) = aX m c 1 n k)
    (h2 : ∀ n k, x2 (ix3 0 n k) = aX m c 2 n k) (h3 : ∀ n k, x3 (ix3 0 n k) = aX m c 3 n k) (h4 : ∀ n k, x4 (ix3 0 n k) = aX m c 4 n k)
    (h5 : ∀ n k, x5 (ix3 0 n k) = aX m c 5 n k) (h6 : ∀ n k, x6 (ix3 0 n k) = aX m c 6 n k) (h7 : ∀ n k, x7 (ix3 0 n k) = aX m c 7 n k)
    (LG : FVec Ideal S8x32x128 .f32)
    (hLG : (View.whole cc0_scratch0).readCov (Val := Elt Ideal)
      [⟨Rect.unit ![7, 0, 0] ![1, 32, 128] inb_S8x32x128_S1x32x128_7_0_0, k0_pay13 (k0_pay2 (iblk m c 2 t0_0) (iblk m c 3 t0_0)) k0_pay3 (k0_pay12 x7 (iblk m c 4 t0_0))⟩,
        ⟨Rect.unit ![6, 0, 0] ![1, 32, 128] inb_S8x32x128_S1x32x128_6_0_0, k0_pay11 (k0_pay2 (iblk m c 2 t0_0) (iblk m c 3 t0_0)) k0_pay3 x6 (iblk m c 4 t0_0)⟩,
        ⟨Rect.unit ![5, 0, 0] ![1, 32, 128] inb_S8x32x128_S1x32x128_5_0_0, k0_pay10 (k0_pay2 (iblk m c 2 t0_0) (iblk m c 3 t0_0)) k0_pay3 x5 (iblk m c 4 t0_0)⟩,
        ⟨Rect.unit ![4, 0, 0] ![1, 32, 128] inb_S8x32x128_S1x32x128_4_0_0, k0_pay9 (k0_pay8 (k0_pay2 (iblk m c 2 t0_0) (iblk m c 3 t0_0)) k0_pay3 x4 (iblk m c 4 t0_0))⟩,
        ⟨Rect.unit ![3, 0, 0] ![1, 32, 128] inb_S8x32x128_S1x32x128_3_0_0, k0_pay7 (k0_pay2 (iblk m c 2 t0_0) (iblk m c 3 t0_0)) k0_pay3 x3 (iblk m c 4 t0_0)⟩,
        ⟨Rect.unit ![2, 0, 0] ![1, 32, 128] inb_S8x32x128_S1x32x128_2_0_0, k0_pay6 (k0_pay2 (iblk m c 2 t0_0) (iblk m c 3 t0_0)) k0_pay3 x2 (iblk m c 4 t0_0)⟩,
        ⟨Rect.unit ![1, 0, 0] ![1, 32, 128] inb_S8x32x128_S1x32x128_1_0_0, k0_pay5 (iblk m c 2 t0_0) (iblk m c 3 t0_0) x1 (iblk m c 4 t0_0)⟩,
        ⟨Rect.unit ![0, 0, 0] ![1, 32, 128] inb_S8x32x128_S1x32x128_0_0_0, k0_pay4 (iblk m c 2 t0_0) (iblk m c 3 t0_0) x0 (iblk m c 4 t0_0)⟩]
      (Rect.unit ![0, 0, 0] ![8, 32, 128] inb_S8x32x128_S8x32x128_0_0_0).toLoadRect = LG) (b : Fin 8) (h : Fin 32) (l : Fin 128) :
    LG (ix3 b h l) = lgA m c b (cell h l) :=
  scratch_at _ _ _ _ _ _ _ _ (fun b h l => lgA m c b (cell h l))
    (fun h l => (lg0 _ _ _ _ h l).trans (lgB_of m c _ 0 h0 _)) (fun h l => (lg1 _ _ _ _ h l).trans (lgB_of m c _ 1 h1 _))
    (fun h l => (lg2 _ _ _ _ h l).trans (lgB_of m c _ 2 h2 _)) (fun h l => (lg3 _ _ _ _ h l).trans (lgB_of m c _ 3 h3 _))
    (fun h l => (lg4 _ _ _ _ h l).trans (lgB_of m c _ 4 h4 _)) (fun h l => (lg5 _ _ _ _ h l).trans (lgB_of m c _ 5 h5 _))
    (fun h l => (lg6 _ _ _ _ h l).trans (lgB_of m c _ 6 h6 _)) (fun h l => (lg7 _ _ _ _ h l).trans (lgB_of m c _ 7 h7 _)) LG hLG b h l

/-- The attention in the kernel's layout. -/
theorem att_at (LG : FVec Ideal S8x32x128 .f32) (hl : ∀ b h l, LG (ix3 b h l) = lgA m c b (cell h l)) (b : Fin 8) (h : Fin 32) (l : Fin 128) :
    k0_pay14 (F := Ideal) (iblk m c 1 t0_0) LG (ix3 b h l) = att m c b (cell h l) :=
  pay14_at _ LG b _ (fun n => padS (aMask m c b n)) (fun h l => congrArg padS (in1 m c b h l)) (fun h l => by rw [hl]) h l

/-- The values of batch `b`, in the kernel's block. -/
theorem x_at (b : Fin 8) (inb : ∀ a, (![b.val, 0, 0] : Fin 3 → ℕ) a + (![1, 4096, 128] : Fin 3 → ℕ) a ≤ S8x4096x128.size a) (n : Fin 4096) (k : Fin 128) :
    (View.ld (Val := Elt Ideal) (e' := .f32) (iblk m c 0 t0_0) (Rect.unit ![b.val, 0, 0] ![1, 4096, 128] inb) : FVec Ideal S1x4096x128 .f32) (ix3 0 n k) = aX m c b n k :=
  (ld_at _ b inb n k).trans (in0 m c b n k)

theorem out13 (b : Fin 8) (h : Reals m c) (e : Fin 128) : (dats m 0 c).after 13 t0_0 (ix2 b e) = boutS (att m c b) (aX m c b) (aWv m c) e := by
  rw [after0_13]; unfold Gen.outsAt0; frame_out
  generalize hLG : View.readCov (Val := Elt Ideal) _ _ _ = LG
  have hl := scratch_lg m c _ _ _ _ _ _ _ _ (x_at m c 0 _) (x_at m c 1 _) (x_at m c 2 _) (x_at m c 3 _) (x_at m c 4 _) (x_at m c 5 _) (x_at m c 6 _) (x_at m c 7 _) LG hLG
  rw [pay17_at _ LG _ _ b (att m c b) (att_at m c LG hl b)]
  simp only [in0, in5]
  exact bout_exchange (attW_real (h.x b) h.bc h.wq h.wk) (h.x b) h.wv e

/-- A batch's slice of a stack of eight. -/
theorem slice_at {n k : ℕ} (X : FVec Ideal ⟨3, ![8, n, k]⟩ .f32) (b : Fin 8) (hs : Shape.Slices ⟨3, ![8, n, k]⟩ ![b.val, 0, 0] ⟨3, ![1, n, k]⟩) (i : Fin n) (j : Fin k) :
    extractStridedSlice ⟨3, ![1, n, k]⟩ ![b.val, 0, 0] X hs (ix3 0 i j) = X (ix3 b i j) := by
  show X _ = X _
  congr 1
  funext a; fin_cases a <;> exact Fin.ext (by simp [ix3])

theorem picks_inj (h : Reals m c) (b : Fin 8) : Function.Injective (pickS (att m c b)) :=
  Cert.Sel.pick_inj fun a => mark_lt_attW (h.x b) h.bc h.wq h.wk a

theorem out11 (b : Fin 8) (h : Reals m c) (k : Fin 64) : (dats m 0 c).after 11 t0_0 (ix3 b 0 k) = BitVec.ofNat 32 (selS (att m c b) k).val := by
  rw [after0_11]; unfold Gen.outsAt0; frame_out
  generalize hLG : View.readCov (Val := Elt Ideal) _ _ _ = LG
  have hl := scratch_lg m c _ _ _ _ _ _ _ _ (x_at m c 0 _) (x_at m c 1 _) (x_at m c 2 _) (x_at m c 3 _) (x_at m c 4 _) (x_at m c 5 _) (x_at m c 6 _) (x_at m c 7 _) LG hLG
  generalize hA : k0_pay14 (F := Ideal) _ _ = A
  generalize hR : Scf.fold _ _ = R
  obtain ⟨s0, s, w⟩ := R
  dsimp only
  have hs := loop_at (att m c) (fun b a => mark_lt_attW (h.x b) h.bc h.wq h.wk a) A (fun b x l => by rw [← hA]; exact att_at m c LG hl b x l) s0 s w hR
  exact pay33_at _ b (selS (att m c b)) (fun k => pay29_at s b _ (fun k => (hs b k).1) (picks_inj m c h b) k) k

theorem out12 (b : Fin 8) (h : Reals m c) (k : Fin 64) : (dats m 0 c).after 12 t0_0 (ix3 b 0 k) = att m c b (selS (att m c b) k) := by
  rw [after0_12]; unfold Gen.outsAt0; frame_out
  generalize hLG : View.readCov (Val := Elt Ideal) _ _ _ = LG
  have hl := scratch_lg m c _ _ _ _ _ _ _ _ (x_at m c 0 _) (x_at m c 1 _) (x_at m c 2 _) (x_at m c 3 _) (x_at m c 4 _) (x_at m c 5 _) (x_at m c 6 _) (x_at m c 7 _) LG hLG
  generalize hA : k0_pay14 (F := Ideal) _ _ = A
  generalize hR : Scf.fold _ _ = R
  obtain ⟨s0, s, w⟩ := R
  dsimp only
  have hs := loop_at (att m c) (fun b a => mark_lt_attW (h.x b) h.bc h.wq h.wk a) A (fun b x l => by rw [← hA]; exact att_at m c LG hl b x l) s0 s w hR
  exact pay30_at s w b _ (fun k => (hs b k).1) (picks_inj m c h b) (att m c b) (fun k => (hs b k).2) k

/-- One batch's block of the transformed rows, from the words, the one-hot rows and the weights of all batches. -/
theorem batch_at (b : Fin 8) (o : FVec Ideal S1x64x4096 .f32) (r v : FVec Ideal S1x64x1 .f32) (x : FVec Ideal S1x4096x128 .f32)
    (ho : ∀ k n, o (ix3 0 k n) = if n = selS (att m c b) k then (1 : EReal) else 0) (hr : ∀ k, r (ix3 0 k 0) = (((selS (att m c b) k).val : ℝ) : EReal))
    (hv : ∀ k, v (ix3 0 k 0) = att m c b (selS (att m c b) k)) (hx : ∀ n k, x (ix3 0 n k) = aX m c b n k) (k : Fin 64) (e : Fin 128) :
    batchBlk o r v x (iblk m c 7 t0_0) (iblk m c 6 t0_0) (iblk m c 8 t0_0) (iblk m c 9 t0_0) (ix3 0 k e)
      = rowsW (att m c b) (aX m c b) (aW m c) (aG m c) (aGa m c) (aBe m c) k e := by
  rw [batchBlk_at o r v x _ _ _ _ k (selS (att m c b) k) e (ho k) (hr k)]
  simp only [hx, hv, in6, in7, in8, in9]
  rfl

theorem out10 (b : Fin 8) (h : Reals m c) (k : Fin 64) (e : Fin 128) :
    (dats m 0 c).after 10 t0_0 (ix3 b k e) = rowsW (att m c b) (aX m c b) (aW m c) (aG m c) (aGa m c) (aBe m c) k e := by
  rw [after0_10]; unfold Gen.outsAt0; frame_out
  generalize hLG : View.readCov (Val := Elt Ideal) _ _ _ = LG
  have hl := scratch_lg m c _ _ _ _ _ _ _ _ (x_at m c 0 _) (x_at m c 1 _) (x_at m c 2 _) (x_at m c 3 _) (x_at m c 4 _) (x_at m c 5 _) (x_at m c 6 _) (x_at m c 7 _) LG hLG
  generalize hA : k0_pay14 (F := Ideal) _ _ = A
  generalize hR : Scf.fold _ _ = R
  obtain ⟨s0, s, w⟩ := R
  dsimp only
  have hs := loop_at (att m c) (fun b a => mark_lt_attW (h.x b) h.bc h.wq h.wk a) A (fun b x l => by rw [← hA]; exact att_at m c LG hl b x l) s0 s w hR
  generalize hf : k0_pay29 (F := Ideal) s = f
  generalize hg : k0_pay32 (F := Ideal) (k0_pay30 s w) = g
  have hfs : ∀ b k, f (ix3 b 0 k) = (((selS (att m c b) k).val : ℝ) : EReal) := fun b k => by
    rw [← hf]; exact pay29_at s b _ (fun k => (hs b k).1) (picks_inj m c h b) k
  have hgs : ∀ b k, g (ix3 b k 0) = att m c b (selS (att m c b) k) := fun b k => by
    rw [← hg, pay32_at]; exact pay30_at s w b _ (fun k => (hs b k).1) (picks_inj m c h b) (att m c b) (fun k => (hs b k).2) k
  have hrs : ∀ b k, k0_pay31 (F := Ideal) f (ix3 b k 0) = (((selS (att m c b) k).val : ℝ) : EReal) := fun b k => pay31_at f b _ (hfs b) k
  have hos : ∀ b k n, k0_pay34 (F := Ideal) f (ix3 b k n) = if n = selS (att m c b) k then (1 : EReal) else 0 := fun b k n => pay34_at f b _ (hfs b) k n
  rw [batch0, batch1, batch2, batch3, batch4, batch5, batch6, batch7]
  canon_tiles x hx
  · refine piece_at _ (fun b k e => rowsW (att m c b) (aX m c b) (aW m c) (aG m c) (aGa m c) (aBe m c) k e) 7 (fun k e => ?_) x b k e hx0 x0_lt hx1 hx2
    exact batch_at m c 7 _ _ _ _ (fun k n => (slice_at _ 7 _ k n).trans (hos 7 k n)) (fun k => (slice_at _ 7 _ k 0).trans (hrs 7 k))
      (fun k => (slice_at _ 7 _ k 0).trans (hgs 7 k)) (x_at m c 7 _) k e
  · refine piece_at _ (fun b k e => rowsW (att m c b) (aX m c b) (aW m c) (aG m c) (aGa m c) (aBe m c) k e) 6 (fun k e => ?_) x b k e hx0 x0_lt hx1 hx2
    exact batch_at m c 6 _ _ _ _ (fun k n => (slice_at _ 6 _ k n).trans (hos 6 k n)) (fun k => (slice_at _ 6 _ k 0).trans (hrs 6 k))
      (fun k => (slice_at _ 6 _ k 0).trans (hgs 6 k)) (x_at m c 6 _) k e
  · refine piece_at _ (fun b k e => rowsW (att m c b) (aX m c b) (aW m c) (aG m c) (aGa m c) (aBe m c) k e) 5 (fun k e => ?_) x b k e hx0 x0_lt hx1 hx2
    exact batch_at m c 5 _ _ _ _ (fun k n => (slice_at _ 5 _ k n).trans (hos 5 k n)) (fun k => (slice_at _ 5 _ k 0).trans (hrs 5 k))
      (fun k => (slice_at _ 5 _ k 0).trans (hgs 5 k)) (x_at m c 5 _) k e
  · refine piece_at _ (fun b k e => rowsW (att m c b) (aX m c b) (aW m c) (aG m c) (aGa m c) (aBe m c) k e) 4 (fun k e => ?_) x b k e hx0 x0_lt hx1 hx2
    exact batch_at m c 4 _ _ _ _ (fun k n => (slice_at _ 4 _ k n).trans (hos 4 k n)) (fun k => (slice_at _ 4 _ k 0).trans (hrs 4 k))
      (fun k => (slice_at _ 4 _ k 0).trans (hgs 4 k)) (x_at m c 4 _) k e
  · refine piece_at _ (fun b k e => rowsW (att m c b) (aX m c b) (aW m c) (aG m c) (aGa m c) (aBe m c) k e) 3 (fun k e => ?_) x b k e hx0 x0_lt hx1 hx2
    exact batch_at m c 3 _ _ _ _ (fun k n => (slice_at _ 3 _ k n).trans (hos 3 k n)) (fun k => (slice_at _ 3 _ k 0).trans (hrs 3 k))
      (fun k => (slice_at _ 3 _ k 0).trans (hgs 3 k)) (x_at m c 3 _) k e
  · refine piece_at _ (fun b k e => rowsW (att m c b) (aX m c b) (aW m c) (aG m c) (aGa m c) (aBe m c) k e) 2 (fun k e => ?_) x b k e hx0 x0_lt hx1 hx2
    exact batch_at m c 2 _ _ _ _ (fun k n => (slice_at _ 2 _ k n).trans (hos 2 k n)) (fun k => (slice_at _ 2 _ k 0).trans (hrs 2 k))
      (fun k => (slice_at _ 2 _ k 0).trans (hgs 2 k)) (x_at m c 2 _) k e
  · refine piece_at _ (fun b k e => rowsW (att m c b) (aX m c b) (aW m c) (aG m c) (aGa m c) (aBe m c) k e) 1 (fun k e => ?_) x b k e hx0 x0_lt hx1 hx2
    exact batch_at m c 1 _ _ _ _ (fun k n => (slice_at _ 1 _ k n).trans (hos 1 k n)) (fun k => (slice_at _ 1 _ k 0).trans (hrs 1 k))
      (fun k => (slice_at _ 1 _ k 0).trans (hgs 1 k)) (x_at m c 1 _) k e
  · refine piece_at _ (fun b k e => rowsW (att m c b) (aX m c b) (aW m c) (aG m c) (aGa m c) (aBe m c) k e) 0 (fun k e => ?_) x b k e (by simpa using hx0) x0_lt hx1 hx2
    exact batch_at m c 0 _ _ _ _ (fun k n => (slice_at _ 0 _ k n).trans (hos 0 k n)) (fun k => (slice_at _ 0 _ k 0).trans (hrs 0 k))
      (fun k => (slice_at _ 0 _ k 0).trans (hgs 0 k)) (x_at m c 0 _) k e

/-! ## The arrays after the run -/

theorem arr10 (h : Reals m c) : (dats m 0 c).arrAt 10 cfg0.N
    = fun j => rowsW (att m c (j 0)) (aX m c (j 0)) (aW m c) (aG m c) (aGa m c) (aBe m c) (j 1) (j 2) := by
  refine Dat.arrAt_eq_of_after_last _ 10 t0_0 (by decide +kernel) _ fun j => ?_
  idx_vars j
  blk_simp
  exact out10 m c _ h _ _

theorem arr11 (h : Reals m c) : (dats m 0 c).arrAt 11 cfg0.N = fun j => BitVec.ofNat 32 (selS (att m c (j 0)) (j 2)).val := by
  refine Dat.arrAt_eq_of_after_last _ 11 t0_0 (by decide +kernel) _ fun j => ?_
  idx_vars j
  blk_simp
  obtain rfl : j1 = 0 := Subsingleton.elim _ _
  exact out11 m c j0 h j2

theorem arr12 (h : Reals m c) : (dats m 0 c).arrAt 12 cfg0.N = fun j => att m c (j 0) (selS (att m c (j 0)) (j 2)) := by
  refine Dat.arrAt_eq_of_after_last _ 12 t0_0 (by decide +kernel) _ fun j => ?_
  idx_vars j
  blk_simp
  obtain rfl : j1 = 0 := Subsingleton.elim _ _
  exact out12 m c j0 h j2

theorem arr13 (h : Reals m c) : (dats m 0 c).arrAt 13 cfg0.N = fun j => boutS (att m c (j 0)) (aX m c (j 0)) (aWv m c) (j 1) := by
  refine Dat.arrAt_eq_of_after_last _ 13 t0_0 (by decide +kernel) _ fun j => ?_
  idx_vars j
  blk_simp
  exact out13 m c j0 h j1

end Cert.KernelIdeal.Hand

end
-- ==== Proof.PreReal.lean ====
/- What the precondition says: the values, the barcode and the three projection matrices hold real numbers. -/
module

public import proofs.«01_k».proof.Proof.RefKept
public import proofs.«01_k».proof.Proof.KOut
public import Idealize.ShloMosaic.Lib.ReduceAll

@[expose] public section
set_option maxRecDepth 16384
noncomputable section

namespace Cert.KernelIdeal.Hand
open Idealize.ShloMosaic Idealize.ShloMosaic.TcCoe Idealize.SL.Sem
open Idealize.ShloMosaic.Pointwise
open Cert.Spec

/-- A value of absolute value below infinity is a real number. -/
theorem isReal_of_abs (x : EReal) (h : FloatOps.cmpf (F := Ideal) (φ := .f32) .olt (FloatOps.hostAbsf x) (FloatOps.ofBits .f32 0x7F800000#32) = 1#1) : IsReal x := by
  have h' : BitVec.ofBool (decide ((FloatOps.hostAbsf (F := Ideal) (φ := .f32) x : EReal) < Ideal.ofBits FTy.f32 2139095040#32)) = 1#1 := h
  have hlt : (FloatOps.hostAbsf (F := Ideal) (φ := .f32) x : EReal) < ⊤ := by
    rw [← c_inf]
    by_contra hn
    rw [decide_eq_false hn] at h'
    exact absurd h' (by decide)
  induction x using EReal.rec with
  | bot => exact absurd hlt (by show ¬ (max ⊥ (-⊥) : EReal) < ⊤; simp)
  | top => exact absurd hlt (by show ¬ (max ⊤ (-⊤) : EReal) < ⊤; simp)
  | coe r => exact ⟨r, rfl⟩

theorem reals_of_pre (m : (ℓ : Loc Cert.KernelIdeal.nD Cert.KernelIdeal.τ Cert.KernelIdeal.sig) → Buf (Elt Ideal) ℓ) (h : Cert.Pre_KernelIdeal_finite_inputs m)
    (c : Dev Cert.KernelIdeal.nD) : Reals m c := by
  haveI : Subsingleton (Cert.Pre_finite_inputs.S_.Idx) := ⟨fun a b => funext fun k => k.elim0⟩
  have h1 := congrFun (h c) (fun k => k.elim0)
  unfold Cert.Pre_finite_inputs.fn Cert.Pre_finite_inputs.fn_part1 at h1
  obtain ⟨h1, hv⟩ := IntOp.andi_eq_one.mp h1
  obtain ⟨h1, hk⟩ := IntOp.andi_eq_one.mp h1
  obtain ⟨h1, hq⟩ := IntOp.andi_eq_one.mp h1
  obtain ⟨hx, hb⟩ := IntOp.andi_eq_one.mp h1
  exact ⟨fun b n k => isReal_of_abs _ (Host.reduce_andi_all _ _ _ _ _ hx (ix3 b n k)),
    fun k => isReal_of_abs _ (Host.reduce_andi_all _ _ _ _ _ hb (ix3 0 0 k)),
    fun k e => isReal_of_abs _ (Host.reduce_andi_all _ _ _ _ _ hq (ix2 k e)),
    fun k e => isReal_of_abs _ (Host.reduce_andi_all _ _ _ _ _ hk (ix2 k e)),
    fun k e => isReal_of_abs _ (Host.reduce_andi_all _ _ _ _ _ hv (ix2 k e))⟩

end Cert.KernelIdeal.Hand

end
-- ==== Proof.RefTerms.lean ====
/- The reference's values as terms over its arguments: the attention, the argsort, the sorted selection's gathers and the
   projected rows, each under a name of its own so that later modules read one at a time. -/
module

public import proofs.«01_k».proof.Proof.Gen.ReferenceIdeal.Run
public import Idealize.ShloMosaic.Lib.Pointwise

@[expose] public section
set_option maxRecDepth 16384
noncomputable section

namespace Cert.ReferenceIdeal.Hand
open Idealize.ShloMosaic Idealize.ShloMosaic.TcCoe Idealize.SL.Sem Idealize.ShloMosaic.StableHlo
open Cert.ReferenceIdeal Cert.ReferenceIdeal.Gen

/-- The contents of a 32-bit float array at ideal values. -/
abbrev FA (s : Shape) := FVec Ideal s .f32
/-- The contents of a 32-bit integer array. -/
abbrev IA (s : Shape) := IVec s 32

/-- The padding mask, 0 where the mask value is -2 and 1 elsewhere. -/
def padR (mask : FA S8x4096) : FA S8x1x4096 :=
  broadcastInDim S8x1x4096 ![0, 2] bcast_S8x4096_S8x1x4096_0_2
    (select (cmpf .oeq mask (broadcastInDim S8x4096 ![] bcast_S_S8x4096 (constant S_ .f32 0xC0000000#32)))
      (broadcastInDim S8x4096 ![] bcast_S_S8x4096 (constant S_ .f32 0x00000000#32))
      (broadcastInDim S8x4096 ![] bcast_S_S8x4096 (constant S_ .f32 0x3F800000#32)))

/-- The scaled logits with the padding penalty added. -/
def logitR (x : FA S8x4096x128) (mask : FA S8x4096) (bc : FA S1x1x128) (wq wk : FA S128x128) : FA S8x1x4096 :=
  addf
    (mulf
      (Host.dotGeneral dot_S8x1x128_S8x128x4096_S8x1x4096_2_1_1_2_0_0 none
        (Host.dotGeneral dot_S8x1x128_S128x128_S8x1x128_2_0_01_1_n_n none
          (broadcastInDim S8x1x128 ![0, 1, 2] bcast_S1x1x128_S8x1x128_0_1_2 bc) wq)
        (transpose S8x128x4096 [0, 2, 1]
          (Host.dotGeneral dot_S8x4096x128_S128x128_S8x4096x128_2_0_01_1_n_n none x wk)
          transposes_S8x4096x128_S8x128x4096_0_2_1))
      (broadcastInDim S8x1x4096 ![] bcast_S_S8x1x4096
        (Host.divf (constant S_ .f32 0x3F800000#32) (Host.sqrt (constant S_ .f32 0x43000000#32)))))
    (id (mulf (subf (broadcastInDim S8x1x4096 ![] bcast_S_S8x1x4096 (constant S_ .f32 0x3F800000#32)) (padR mask))
      (broadcastInDim S8x1x4096 ![] bcast_S_S8x1x4096 (constant S_ .f32 0xCE6E6B28#32))))

/-- The exponentials of the logits less their maximum. -/
def expR (lg : FA S8x1x4096) : FA S8x1x4096 :=
  Host.exp (subf lg (broadcastInDim S8x1x4096 ![0, 1, 2] bcast_S8x1x1_S8x1x4096_0_1_2
    (broadcastInDim S8x1x1 ![0, 1] bcast_S8x1_S8x1x1_0_1
      (maximumf (broadcastInDim S8x1 ![] bcast_S_S8x1 (constant S_ .f32 0xFF800000#32))
        (Host.reduce FloatOps.maximumf lg (constant S_ .f32 0xFF800000#32) reducesTo_S8x1x4096_S8x1_d2 h_S_)))))

/-- The exponentials over their sum, times the padding mask. -/
def softR (ex : FA S8x1x4096) (mask : FA S8x4096) : FA S8x1x4096 :=
  mulf (Host.divf ex (broadcastInDim S8x1x4096 ![0, 1, 2] bcast_S8x1x1_S8x1x4096_0_1_2
    (broadcastInDim S8x1x1 ![0, 1] bcast_S8x1_S8x1x1_0_1
      (Host.reduceAdd ex (constant S_ .f32 0x00000000#32) reducesTo_S8x1x4096_S8x1_d2 h_S_))))
    (id (padR mask))

/-- The attention weights. -/
def attR (x : FA S8x4096x128) (mask : FA S8x4096) (bc : FA S1x1x128) (wq wk : FA S128x128) : FA S8x1x4096 :=
  softR (expR (logitR x mask bc wq wk)) mask

/-- The attention weights as a matrix of rows. -/
def attSqR (att : FA S8x1x4096) : FA S8x4096 := shapeCast S8x4096 att shapeCasts_S8x1x4096_S8x4096

/-- The attended barcode. -/
def boutR (att : FA S8x1x4096) (x : FA S8x4096x128) (wv : FA S128x128) : FA S8x1x128 :=
  Host.dotGeneral dot_S8x1x4096_S8x4096x128_S8x1x128_2_1_1_2_0_0 none att
    (Host.dotGeneral dot_S8x4096x128_S128x128_S8x4096x128_2_0_01_1_n_n none x wv : FA S8x4096x128)

/-- The positions in descending order of attention. -/
def indsR (att : FA S8x1x4096) : IA S8x4096 :=
  (Host.sort2 S8x4096 1 (comparator_f32_i32_d1 (F := Ideal)) (Host.negf (attSqR att)) (iotaInDim S8x4096 32 1)).2

/-- The selection before the loop: the first position alone. -/
def sel0R (inds : IA S8x4096) : IA S8x64 :=
  select (broadcastInDim S8x64 ![0, 1] bcast_S1x64_S8x64_0_1
      (cmpi .eq (broadcastInDim S1x64 ![1] bcast_S64_S1x64_1 (iotaInDim S64 32 0))
        (broadcastInDim S1x64 ![] bcast_S_S1x64 (constantI S_ 32 0#32))))
    (broadcastInDim S8x64 ![0, 1] bcast_S8x1_S8x64_0_1 (extractStridedSlice S8x1 ![0, 0] inds slices_S8x4096_S8x1_0_0))
    (broadcastInDim S8x64 ![] bcast_S_S8x64 (id (constantI S_ 32 0#32)))

/-- The selection in ascending order of position. -/
def sortR (sel : IA S8x64) : IA S8x64 := Host.sort S8x64 1 comparator_i32_d1 sel

/-- A position below zero counts from the end. -/
def wrapR (s : IA S8x64) : IA S8x64 :=
  select (cmpi .slt s (broadcastInDim S8x64 ![] bcast_S_S8x64 (constantI S_ 32 0#32)))
    (addi s (broadcastInDim S8x64 ![] bcast_S_S8x64 (constantI S_ 32 4096#32))) s

/-- The attention at the selected positions. -/
def wtsR (att : FA S8x4096) (s : IA S8x64) : FA S8x64 :=
  let w := shapeCast S8x64x1 (wrapR s) shapeCasts_S8x64_S8x64x1
  select
    (Host.reduce IntOp.andi
      (andi (cmpi .sge w (broadcastInDim S8x64x1 ![] bcast_S_S8x64x1 (constantI S_ 32 0#32)))
        (cmpi .sle w (broadcastInDim S8x64x1 ![0, 1, 2] bcast_S1x1x1_S8x64x1_0_1_2
          (broadcastInDim S1x1x1 ![2] bcast_S1_S1x1x1_2 (constantI S1 32 4095#32)))))
      (constantI S_ 1 1#1) reducesTo_S8x64x1_S8x64_d2 h_S_)
    (Host.gather gather_S8x4096_S8x64x1_S8x64_n_1_0_0_1_2_11 att w)
    (broadcastInDim S8x64 ![] bcast_S_S8x64 (constant S_ .f32 0x7FC00000#32))

/-- The selected rows with their position encoding. -/
def rowsR (x : FA S8x4096x128) (s : IA S8x64) : FA S8x64x128 :=
  addf (Host.gather gather_S8x4096x128_S8x64x1_S8x64x128_2_1_0_0_1_2_11128 x
      (broadcastInDim S8x64x1 ![0, 1] bcast_S8x64_S8x64x1_0_1 (wrapR s)))
    (Host.sin (Host.divf
      (broadcastInDim S8x64x128 ![0, 1, 2] bcast_S8x64x1_S8x64x128_0_1_2
        (sitofp .f32 (broadcastInDim S8x64x1 ![0, 1] bcast_S8x64_S8x64x1_0_1 s)))
      (broadcastInDim S8x64x128 ![0, 1, 2] bcast_S1x1x128_S8x64x128_0_1_2
        (broadcastInDim S1x1x128 ![2] bcast_S128_S1x1x128_2
          (Host.powf (broadcastInDim S128 ![] bcast_S_S128 (constant S_ .f32 0x42200000#32))
            (Host.divf (sitofp .f32 (iotaInDim S128 32 0))
              (broadcastInDim S128 ![] bcast_S_S128 (constant S_ .f32 0x43000000#32))))))))

/-- One matrix per selected place applied to that place's row. -/
def projR (o : FA S8x64x128) (w : FA S64x128x128) : FA S8x64x1x128 :=
  transpose S8x64x1x128 [1, 0, 2, 3]
    (Host.dotGeneral dot_S8x64x1x128_S64x128x128_S64x8x1x128_3_1_02_2_1_0 none
      (broadcastInDim S8x64x1x128 ![0, 1, 3] bcast_S8x64x128_S8x64x1x128_0_1_3 o) w)
    transposes_S64x8x1x128_S8x64x1x128_1_0_2_3

/-- The rows projected, gated and weighted. -/
def gateR (o : FA S8x64x128) (wts : FA S8x64) (g : FA S64x128x128) (w : FA S1x64x128x128) : FA S8x64x128 :=
  mulf (mulf
      (shapeCast S8x64x128 (projR o (shapeCast S64x128x128 w shapeCasts_S1x64x128x128_S64x128x128)) shapeCasts_S8x64x1x128_S8x64x128)
      (shapeCast S8x64x128
        (Host.divf (broadcastInDim S8x64x1x128 ![] bcast_S_S8x64x1x128 (constant S_ .f32 0x3F800000#32))
          (addf (broadcastInDim S8x64x1x128 ![] bcast_S_S8x64x1x128 (constant S_ .f32 0x3F800000#32))
            (Host.exp (Host.negf (projR o g))))) shapeCasts_S8x64x1x128_S8x64x128))
    (broadcastInDim S8x64x128 ![0, 1, 2] bcast_S8x64x1_S8x64x128_0_1_2
      (broadcastInDim S8x64x1 ![0, 1] bcast_S8x64_S8x64x1_0_1 wts))

/-- The mean over a row, kept as a column. -/
def meanR (y : FA S8x64x128) : FA S8x64x1 :=
  Host.divf (broadcastInDim S8x64x1 ![0, 1] bcast_S8x64_S8x64x1_0_1
      (Host.reduceAdd y (constant S_ .f32 0x00000000#32) reducesTo_S8x64x128_S8x64_d2 h_S_))
    (broadcastInDim S8x64x1 ![] bcast_S_S8x64x1 (constant S_ .f32 0x43000000#32))

/-- A row less its mean. -/
def centR (y : FA S8x64x128) : FA S8x64x128 :=
  subf y (broadcastInDim S8x64x128 ![0, 1, 2] bcast_S8x64x1_S8x64x128_0_1_2 (meanR y))

/-- The normalized rows. -/
def normR (y : FA S8x64x128) (ga be : FA S128) : FA S8x64x128 :=
  addf (mulf
      (Host.divf (centR y) (broadcastInDim S8x64x128 ![0, 1, 2] bcast_S8x64x1_S8x64x128_0_1_2
        (Host.sqrt (addf (meanR (mulf (centR y) (centR y)))
          (broadcastInDim S8x64x1 ![] bcast_S_S8x64x1 (constant S_ .f32 0x3A83126F#32))))))
      (broadcastInDim S8x64x128 ![0, 1, 2] bcast_S1x1x128_S8x64x128_0_1_2 (broadcastInDim S1x1x128 ![2] bcast_S128_S1x1x128_2 ga)))
    (broadcastInDim S8x64x128 ![0, 1, 2] bcast_S1x1x128_S8x64x128_0_1_2 (broadcastInDim S1x1x128 ![2] bcast_S128_S1x1x128_2 be))

end Cert.ReferenceIdeal.Hand
-- ==== Proof.RefTrip.lean ====
/- One trip of the reference's loop: the candidate it reads, the test it makes of it, and the selection and counts it leaves. -/
module

public import proofs.«01_k».proof.Proof.RefTerms
public import proofs.«01_k».proof.Proof.Words
public import proofs.«01_k».proof.Proof.Select

@[expose] public section
set_option maxRecDepth 16384
noncomputable section

namespace Cert.ReferenceIdeal.Hand
open Idealize.ShloMosaic Idealize.ShloMosaic.TcCoe Idealize.SL.Sem Idealize.ShloMosaic.StableHlo
open Idealize.ShloMosaic.Pointwise
open Cert.ReferenceIdeal Cert.ReferenceIdeal.Gen Cert.ReferenceIdeal.Value
open Cert.Spec Cert.Sel

/-- The candidates of a trip: a column of the argsort. -/
def candR (inds : IA S8x4096) (pos : IA S_) : IA S8x1 :=
  Host.dynamicSlice S8x1 inds (fun k => (((![constantI S_ 32 0#32, select (cmpi .slt pos (constantI S_ 32 0#32)) (addi (id pos) (constantI S_ 32 4096#32)) pos]
    : Fin 2 → IA S_)) k (Shape.Idx.first h_S_)).toInt) sliceFits_S8x4096_S8x1

/-- Whether a trip's candidate is taken. -/
def okR (sel : IA S8x64) (io : IA S1x64) (cnt : IA S8) (cand : IA S8x1) : IVec S8 1 :=
  andi (Host.reduce IntOp.andi (select (cmpi .slt (broadcastInDim S8x64 ![0, 1] bcast_S1x64_S8x64_0_1 io)
        (broadcastInDim S8x64 ![0, 1] bcast_S8x1_S8x64_0_1 (broadcastInDim S8x1 ![0] bcast_S8_S8x1_0 cnt)))
      (andi (cmpi .sge (absi (subi sel (broadcastInDim S8x64 ![0, 1] bcast_S8x1_S8x64_0_1 cand))) (broadcastInDim S8x64 ![] bcast_S_S8x64 (constantI S_ 32 4#32)))
        (cmpi .sle (absi (subi sel (broadcastInDim S8x64 ![0, 1] bcast_S8x1_S8x64_0_1 cand))) (broadcastInDim S8x64 ![] bcast_S_S8x64 (constantI S_ 32 4096#32))))
      (broadcastInDim S8x64 ![] bcast_S_S8x64 (constantI S_ 1 1#1))) (constantI S_ 1 1#1) reducesTo_S8x64_S8_d1 h_S_)
    (cmpi .slt cnt (broadcastInDim S8 ![] bcast_S_S8 (constantI S_ 32 64#32)))

/-- The selection after a trip. -/
def nextR (sel : IA S8x64) (io : IA S1x64) (cnt : IA S8) (cand : IA S8x1) (ok : IVec S8 1) : IA S8x64 :=
  select (broadcastInDim S8x64 ![0, 1] bcast_S8x1_S8x64_0_1 (broadcastInDim S8x1 ![0] bcast_S8_S8x1_0 ok))
    (select (cmpi .eq (broadcastInDim S8x64 ![0, 1] bcast_S1x64_S8x64_0_1 io)
        (broadcastInDim S8x64 ![0, 1] bcast_S8x1_S8x64_0_1 (broadcastInDim S8x1 ![0] bcast_S8_S8x1_0 cnt)))
      (broadcastInDim S8x64 ![0, 1] bcast_S8x1_S8x64_0_1 cand) sel) sel

/-- The counts after a trip. -/
def countR (cnt : IA S8) (ok : IVec S8 1) : IA S8 := addi cnt (extui 32 ok natLt_1_32)

/-- The places of a selection. -/
def placesR : IA S1x64 := broadcastInDim S1x64 ![1] bcast_S64_S1x64_1 (iotaInDim S64 32 0)

/-- A conjunction of bits all set. -/
theorem fold_all {ι : Type} (s : Finset ι) (f : ι → BitVec 1) (h : ∀ k ∈ s, f k = 1#1) : s.fold IntOp.andi (1#1) f = 1#1 := by
  classical
  induction s using Finset.induction_on with
  | empty => rfl
  | insert a s ha ih =>
    rw [Finset.fold_insert ha, ih fun k hk => h k (Finset.mem_insert_of_mem hk), h a (Finset.mem_insert_self a s)]
    rfl

/-- A conjunction of bits one of which is clear. -/
theorem fold_not {ι : Type} (s : Finset ι) (f : ι → BitVec 1) (k : ι) (hk : k ∈ s) (h : f k = 0#1) : s.fold IntOp.andi (1#1) f = 0#1 := by
  classical
  rw [← Finset.insert_erase hk, Finset.fold_insert (Finset.notMem_erase k s), h]
  exact BitVec.zero_and

/-- The candidate of batch `b` at place `i` of the argsort. -/
theorem cand_at (inds : IA S8x4096) (b : Fin 8) (i : Fin 4096) :
    candR inds (constantI S_ 32 (BitVec.ofNat 32 i.val)) (ix2 b 0) = inds (ix2 b i) := by
  have hp : ∀ j, select (cmpi .slt (constantI S_ 32 (BitVec.ofNat 32 i.val)) (constantI S_ 32 0#32))
      (addi (id (constantI S_ 32 (BitVec.ofNat 32 i.val))) (constantI S_ 32 4096#32)) (constantI S_ 32 (BitVec.ofNat 32 i.val)) j = BitVec.ofNat 32 i.val := by
    intro j
    show Scalar.select (BitVec.ofBool (BitVec.slt (BitVec.ofNat 32 i.val) (BitVec.ofNat 32 0))) _ (BitVec.ofNat 32 i.val) = _
    rw [slt_ofNat (by omega) (by omega), select_bool, if_neg (Nat.not_lt_zero _)]
  unfold candR Host.dynamicSlice extractStridedSlice
  congr 1
  funext a
  refine Fin.ext ?_
  fin_cases a
  · show (min (max (0#32).toInt 0) ((8 - 8 : ℕ) : ℤ)).toNat + b.val = b.val
    simp
  · have e : ∀ w : BitVec 32, w = BitVec.ofNat 32 i.val → (min (max w.toInt 0) ((4096 - 1 : ℕ) : ℤ)).toNat + 0 = i.val := by
      rintro w rfl
      rw [toInt_ofNat (by omega)]
      omega
    exact e _ (hp _)

section
variable (sel : IA S8x64) (cnt : IA S8) (cand : IA S8x1) (b : Fin 8) (c : ℕ) (q : ℕ → Fin 4096) (u : Fin 4096)

/-- A candidate is taken when fewer than sixty-four are kept and it is far from each. -/
theorem ok_at (hcnt : cnt (ix1 b) = BitVec.ofNat 32 c) (hc : c ≤ 64) (hsel : ∀ k : Fin 64, sel (ix2 b k) = BitVec.ofNat 32 (q k.val).val)
    (hcand : cand (ix2 b 0) = BitVec.ofNat 32 u.val) [Decidable (c < 64 ∧ ∀ k < c, ¬ Near (q k) u)] :
    okR sel placesR cnt cand (ix1 b) = BitVec.ofBool (decide (c < 64 ∧ ∀ k < c, ¬ Near (q k) u)) := by
  classical
  pointwise [okR, placesR]
  have hk : ∀ k : Fin 64, Scalar.select (IntOp.cmpi CmpIPredicate.slt (BitVec.ofNat 32 k.val) (cnt (ix1 b)))
      (IntOp.andi (IntOp.cmpi CmpIPredicate.sge (IntOp.absi (IntOp.subi (sel (ix2 b k)) (cand (ix2 b 0)))) 4#32)
        (IntOp.cmpi CmpIPredicate.sle (IntOp.absi (IntOp.subi (sel (ix2 b k)) (cand (ix2 b 0)))) 4096#32)) (1#1)
      = BitVec.ofBool (decide (k.val < c → ¬ Near (q k.val) u)) := by
    intro k
    rw [hcnt, hsel, hcand]
    have h1 : IntOp.cmpi CmpIPredicate.slt (BitVec.ofNat 32 k.val) (BitVec.ofNat 32 c) = BitVec.ofBool (decide (k.val < c)) := by
      show BitVec.ofBool _ = _
      rw [slt_ofNat (by omega) (by omega)]
    have ha := toInt_absdiff (q k.val).isLt u.isLt
    generalize IntOp.absi (IntOp.subi (BitVec.ofNat 32 (q k.val).val) (BitVec.ofNat 32 u.val)) = w at ha ⊢
    have h2 : IntOp.cmpi CmpIPredicate.sge w 4#32 = BitVec.ofBool (decide (¬ Near (q k.val) u)) := by
      show BitVec.ofBool ((BitVec.ofNat 32 4).sle w) = _
      rw [ofNat_sle (by omega), ha]
      congr 1
      rw [decide_eq_decide]
      unfold Near
      have := abs_le (a := ((q k.val).val : ℤ) - u.val) (b := 3)
      omega
    have h3 : IntOp.cmpi CmpIPredicate.sle w 4096#32 = 1#1 := by
      show BitVec.ofBool (w.sle (BitVec.ofNat 32 4096)) = _
      rw [sle_ofNat (by omega), ha, decide_eq_true]
      · rfl
      · rw [abs_le]; omega
    rw [h1, h2, h3, select_bool]
    by_cases hl : k.val < c <;> by_cases hn : Near (q k.val) u <;> simp [hl, hn, IntOp.andi]
  simp only [hk]
  have h1 : IntOp.cmpi CmpIPredicate.slt (BitVec.ofNat 32 c) 64#32 = BitVec.ofBool (decide (c < 64)) := by
    show BitVec.ofBool (BitVec.slt (BitVec.ofNat 32 c) (BitVec.ofNat 32 64)) = _
    rw [slt_ofNat (by omega) (by omega)]
  rw [hcnt, h1]
  by_cases hn : ∀ k < c, ¬ Near (q k) u
  · rw [fold_all _ _ fun k _ => by rw [decide_eq_true (hn k.val)]; rfl]
    by_cases hl : c < 64
    · rw [decide_eq_true hl, decide_eq_true ⟨hl, hn⟩]; rfl
    · rw [decide_eq_false hl, decide_eq_false fun h : c < 64 ∧ ∀ k < c, ¬ Near (q k) u => hl h.1]; rfl
  · rw [decide_eq_false fun h : c < 64 ∧ ∀ k < c, ¬ Near (q k) u => hn h.2]
    push Not at hn
    obtain ⟨k, hk, hn⟩ := hn
    rw [fold_not _ _ (⟨k, by omega⟩ : Fin 64) (Finset.mem_univ _) (by rw [decide_eq_false fun h => h hk hn]; rfl)]
    exact BitVec.zero_and

/-- A lane of the selection after a trip. -/
theorem next_at (ok : IVec S8 1) (P : Prop) [Decidable P] (hok : ok (ix1 b) = BitVec.ofBool (decide P)) (hcnt : cnt (ix1 b) = BitVec.ofNat 32 c) (hc : c ≤ 64)
    (hsel : ∀ k : Fin 64, sel (ix2 b k) = BitVec.ofNat 32 (q k.val).val) (hcand : cand (ix2 b 0) = BitVec.ofNat 32 u.val) (k : Fin 64) :
    nextR sel placesR cnt cand ok (ix2 b k) = BitVec.ofNat 32 (if P ∧ k.val = c then u else q k.val).val := by
  pointwise [nextR, placesR]
  rw [hok, hcnt, hsel, hcand, cmpi_eq_ofNat (by omega) (by omega), select_bool, select_bool]
  by_cases h1 : P <;> by_cases h2 : k.val = c <;> simp [h1, h2]

/-- The count after a trip. -/
theorem count_at (ok : IVec S8 1) (P : Prop) [Decidable P] (hok : ok (ix1 b) = BitVec.ofBool (decide P)) (hcnt : cnt (ix1 b) = BitVec.ofNat 32 c) :
    countR cnt ok (ix1 b) = BitVec.ofNat 32 (if P then c + 1 else c) := by
  pointwise [countR]
  rw [hok, hcnt]
  by_cases h : P
  · simp only [h, decide_true, if_true]
    show BitVec.ofNat 32 c + BitVec.ofNat 32 1 = _
    rw [BitVec.ofNat_add]
  · simp only [h, decide_false, if_false]
    show BitVec.ofNat 32 c + BitVec.ofNat 32 0 = _
    rw [BitVec.add_zero]
end

end Cert.ReferenceIdeal.Hand

end
-- ==== Proof.SortOrder.lean ====
/- A stable sort of positions by a key: the sorted positions run up in the key, and of equal keys the earlier position comes
   first. -/
module

public import Idealize.ShloMosaic.Lib.Pointwise
public import Idealize.ShloMosaic.Lib.SortFacts

@[expose] public section
noncomputable section

namespace Cert.Sel
open Idealize.ShloMosaic

variable {α : Type} [LinearOrder α] {n : ℕ}

/-- The order a stable sort by the key `f` puts positions in. -/
def Before (f : Fin n → α) (a b : Fin n) : Prop := f a < f b ∨ (f a = f b ∧ a < b)

theorem Before.trans {f : Fin n → α} {a b c : Fin n} (h : Before f a b) (h' : Before f b c) : Before f a c := by
  rcases h with h | ⟨h, hl⟩ <;> rcases h' with h' | ⟨h', hl'⟩
  · exact .inl (h.trans h')
  · exact .inl (h' ▸ h)
  · exact .inl (h ▸ h')
  · exact .inr ⟨h.trans h', hl.trans hl'⟩

variable (f : Fin n → α) (R : Fin n → Fin n → Bool) (hR : ∀ a b, R a b = true ↔ f a < f b)
include hR

theorem pairwise_insert (a : Fin n) (l : List (Fin n)) (ha : ∀ b ∈ l, a < b) (hl : l.Pairwise (Before f)) :
    (insertBefore R a l).Pairwise (Before f) := by
  induction l with
  | nil => exact List.pairwise_singleton _ _
  | cons b l ih =>
    rw [List.pairwise_cons] at hl
    unfold insertBefore
    split
    · next h =>
      refine List.pairwise_cons.mpr ⟨fun x hx => ?_, ih (fun x hx => ha x (List.mem_cons_of_mem _ hx)) hl.2⟩
      rcases List.mem_cons.mp ((perm_insertBefore R a l).mem_iff.mp hx) with rfl | hx
      · exact .inl ((hR _ _).mp h)
      · exact hl.1 x hx
    · next h =>
      have hab : Before f a b := by
        rcases (not_lt.mp fun h' => h ((hR _ _).mpr h') : f a ≤ f b).lt_or_eq with h | h
        · exact .inl h
        · exact .inr ⟨h, ha b (List.mem_cons_self ..)⟩
      refine List.pairwise_cons.mpr ⟨fun x hx => ?_, List.pairwise_cons.mpr hl⟩
      rcases List.mem_cons.mp hx with rfl | hx
      · exact hab
      · exact hab.trans (hl.1 x hx)

theorem pairwise_sort (l : List (Fin n)) (hl : l.Pairwise (· < ·)) : (stableSort R l).Pairwise (Before f) := by
  induction l with
  | nil => exact List.Pairwise.nil
  | cons a l ih =>
    rw [List.pairwise_cons] at hl
    unfold stableSort
    exact pairwise_insert f R hR a _ (fun b hb => hl.1 b ((perm_stableSort R l).mem_iff.mp hb)) (ih hl.2)

/-- The sorted positions run in the order of the stable sort. -/
theorem before_sortedFrom (i j : Fin n) (hij : i < j) : Before f (sortedFrom R i) (sortedFrom R j) := by
  have hp := List.pairwise_iff_get.mp (pairwise_sort f R hR (List.finRange n) (List.pairwise_lt_finRange n))
  exact hp (i.cast (length_sortPositions n R).symm) (j.cast (length_sortPositions n R).symm) hij

end Cert.Sel
-- ==== Proof.RefSort.lean ====
/- The reference's two sorts: the argsort by attention puts the positions in descending order, and the sort of a selection
   puts its positions in ascending order. -/
module

public import proofs.«01_k».proof.Proof.RefTerms
public import proofs.«01_k».proof.Proof.Words
public import proofs.«01_k».proof.Proof.SortOrder
public import proofs.«01_k».proof.Proof.Select
public import Idealize.ShloMosaic.Lib.SortFacts

@[expose] public section
set_option maxRecDepth 16384
noncomputable section

namespace Cert.ReferenceIdeal.Hand
open Idealize.ShloMosaic Idealize.ShloMosaic.TcCoe Idealize.SL.Sem
open Idealize.ShloMosaic.Pointwise
open Cert.ReferenceIdeal Cert.ReferenceIdeal.Gen
open Cert.Spec Cert.Sel

/-- A value of a row replaced at a column. -/
theorem along_ix2 {m n : ℕ} (b : Fin m) (i k : Fin n) : (ix2 b i : Shape.Idx ⟨2, ![m, n]⟩).along 1 k = ix2 b k := by
  funext a
  fin_cases a <;> rfl

/-- The argsort's comparator compares its first components. -/
theorem cmp_desc (x y : EReal) (u v : BitVec 32) :
    ((comparator_f32_i32_d1 (F := Ideal) (x, u) (y, v)) == 1#1) = true ↔ x < y := by
  have hz : ∀ z : EReal, Scalar.select (FloatOps.cmpf (F := Ideal) (φ := .f32) .une z z) (FloatOps.ofBits .f32 0x7FC00000#32 : Ideal .f32)
      (Scalar.select (FloatOps.cmpf (F := Ideal) (φ := .f32) .oeq z (FloatOps.ofBits .f32 0x00000000#32)) (FloatOps.ofBits .f32 0x00000000#32 : Ideal .f32) z) = z := by
    intro z
    have h0 : (FloatOps.ofBits .f32 0x00000000#32 : Ideal .f32) = (0 : EReal) := by
      show Ideal.ofBits .f32 0#32 = 0
      simp [Ideal.ofBits, Ideal.ieee]
    rw [h0]
    show Scalar.select (BitVec.ofBool (decide (z ≠ z))) _ (Scalar.select (BitVec.ofBool (decide (z = 0))) (0 : EReal) z) = z
    rw [select_bool, select_bool, if_neg (by simp)]
    split
    · next h => exact h.symm
    · rfl
  unfold comparator_f32_i32_d1
  simp only [hz]
  show (BitVec.ofBool (decide (x < y)) == 1#1) = true ↔ _
  by_cases h : x < y <;> simp [h]

/-- The selection's comparator compares positions. -/
theorem cmp_asc {a b : ℕ} (ha : a < 4096) (hb : b < 4096) :
    (comparator_i32_d1 (BitVec.ofNat 32 a) (BitVec.ofNat 32 b) == 1#1) = true ↔ a < b := by
  show (BitVec.ofBool (BitVec.slt _ _) == 1#1) = true ↔ _
  rw [slt_ofNat (by omega) (by omega)]
  by_cases h : a < b <;> simp [h]

/-- The argsort of a batch: descending, ties in order of position. -/
theorem inds_at (att : FA S8x1x4096) (b : Fin 8) :
    ∃ σ : Fin 4096 → Fin 4096, Down (fun n => att (ix3 b 0 n)) σ ∧ ∀ i, indsR att (ix2 b i) = BitVec.ofNat 32 (σ i).val := by
  have hs : ∀ k, Host.negf (attSqR att) (ix2 b k) = -att (ix3 b 0 k) := by
    intro k; pointwise [attSqR]
  refine ⟨sortedFrom (fun k k' => (comparator_f32_i32_d1 (F := Ideal) (-att (ix3 b 0 k), BitVec.ofNat 32 k.val)
    (-att (ix3 b 0 k'), BitVec.ofNat 32 k'.val)) == 1#1), ⟨sortedFrom_surjective _, ?_⟩, ?_⟩
  · intro i j hij
    rcases before_sortedFrom (fun k => -att (ix3 b 0 k)) _ (fun k k' => cmp_desc _ _ _ _) i j hij with h | ⟨h, hl⟩
    · exact .inl (EReal.neg_lt_neg_iff.mp h)
    · exact .inr ⟨neg_injective h, hl⟩
  · intro i
    unfold indsR Host.sort2
    rw [dif_pos (by decide)]
    refine (congrArg (iotaInDim S8x4096 32 1) (along_ix2 b i _)).trans ?_
    refine congrArg (fun R => BitVec.ofNat 32 (sortedFrom (n := 4096) R i).val) (funext fun k => funext fun k' => ?_)
    have hk : ∀ k : Fin 4096, Host.negf (attSqR att) ((ix2 b i : S8x4096.Idx).along 1 k) = -att (ix3 b 0 k) :=
      fun k => (congrArg _ (along_ix2 b i k)).trans (hs k)
    have hi : ∀ k : Fin 4096, iotaInDim S8x4096 32 1 ((ix2 b i : S8x4096.Idx).along 1 k) = BitVec.ofNat 32 k.val :=
      fun k => congrArg (iotaInDim S8x4096 32 1) (along_ix2 b i k)
    exact congrArg₂ (fun p q => comparator_f32_i32_d1 (F := Ideal) p q == 1#1) (Prod.ext (hk k) (hi k)) (Prod.ext (hk k') (hi k'))

/-- The sorted selection of a batch. -/
theorem sort_at (sel : IA S8x64) (b : Fin 8) (p : Fin 64 → Fin 4096) (hp : Function.Injective p)
    (hsel : ∀ k, sel (ix2 b k) = BitVec.ofNat 32 (p k).val) (a : Fin 64) : sortR sel (ix2 b a) = BitVec.ofNat 32 (srt p a).val := by
  unfold sortR Host.sort
  rw [dif_pos (by decide)]
  have hk : ∀ k : Fin 64, sel ((ix2 b a : S8x64.Idx).along 1 k) = BitVec.ofNat 32 (p k).val := fun k => (congrArg sel (along_ix2 b a k)).trans (hsel k)
  refine (hk _).trans ?_
  have hR : (fun k k' : Fin 64 => comparator_i32_d1 (sel ((ix2 b a : S8x64.Idx).along 1 k)) (sel ((ix2 b a : S8x64.Idx).along 1 k')) == 1#1)
      = fun k k' => comparator_i32_d1 (BitVec.ofNat 32 (p k).val) (BitVec.ofNat 32 (p k').val) == 1#1 :=
    funext fun k => funext fun k' => congrArg₂ (fun x y => comparator_i32_d1 x y == 1#1) (hk k) (hk k')
  refine (congrArg (fun R => BitVec.ofNat 32 (p (sortedFrom (n := 64) R a)).val) hR).trans ?_
  beta_reduce
  rw [srt_of_sorted (p := p) hp (sortedFrom_surjective _) (fun i j hij => ?_) a]
  rcases before_sortedFrom p _ (fun k k' => (cmp_asc (p k).isLt (p k').isLt).trans Fin.lt_def.symm) i j hij with h | ⟨h, hl⟩
  · exact h
  · exact absurd (hp h) hl.ne

end Cert.ReferenceIdeal.Hand

end
-- ==== Proof.RefRun.lean ====
/- What the reference leaves in its result buffers: the contents after the operations before the loop, the loop's carried
   buffers after its trips, and the results of the operations after it. -/
module

public import proofs.«01_k».proof.Proof.RefTerms

@[expose] public section
set_option maxRecDepth 16384
noncomputable section

namespace Cert.ReferenceIdeal.Hand
open Idealize.ShloMosaic Idealize.ShloMosaic.TcCoe Idealize.SL.Sem Idealize.ShloMosaic.StableHlo
open Cert.ReferenceIdeal Cert.ReferenceIdeal.Gen Cert.ReferenceIdeal.Value

variable (V : Valuation τ sig (Elt Ideal))

/-- The attention before the loop. -/
theorem pre_att : afterL preI V (Proc.devRef .tc main_v34) = attSqR (attR (V (Proc.devRef .tc main_arg0)) (V (Proc.devRef .tc main_arg1)) (V (Proc.devRef .tc main_arg2)) (V (Proc.devRef .tc main_arg3)) (V (Proc.devRef .tc main_arg4))) := by
  rw [afterL_eq_after_flatten]
  after_reads_simp
  rfl

/-- The attended barcode before the loop. -/
theorem pre_bout : afterL preI V (Proc.devRef .tc main_v33) = boutR (attR (V (Proc.devRef .tc main_arg0)) (V (Proc.devRef .tc main_arg1)) (V (Proc.devRef .tc main_arg2)) (V (Proc.devRef .tc main_arg3)) (V (Proc.devRef .tc main_arg4))) (V (Proc.devRef .tc main_arg0)) (V (Proc.devRef .tc main_arg5)) := by
  rw [afterL_eq_after_flatten]
  after_reads_simp
  rfl

/-- The argsort the loop carries. -/
theorem pre_inds : afterL preI V (Proc.devRef .tc main_v44_0) = indsR (attR (V (Proc.devRef .tc main_arg0)) (V (Proc.devRef .tc main_arg1)) (V (Proc.devRef .tc main_arg2)) (V (Proc.devRef .tc main_arg3)) (V (Proc.devRef .tc main_arg4))) := by
  rw [afterL_eq_after_flatten]
  after_reads_simp
  rfl

/-- The places the loop carries. -/
theorem pre_iota : afterL preI V (Proc.devRef .tc main_v44_1) = broadcastInDim S1x64 ![1] bcast_S64_S1x64_1 (iotaInDim S64 32 0) := by
  rw [afterL_eq_after_flatten]
  after_reads_simp
  rfl

/-- The trip counter at entry. -/
theorem pre_trip : afterL preI V (Proc.devRef .tc main_v44_2) = constantI S_ 32 0#32 := by
  rw [afterL_eq_after_flatten]
  after_reads_simp
  rfl

/-- The position counter at entry. -/
theorem pre_pos : afterL preI V (Proc.devRef .tc main_v44_3) = constantI S_ 32 1#32 := by
  rw [afterL_eq_after_flatten]
  after_reads_simp
  rfl

/-- The selection at entry. -/
theorem pre_sel : afterL preI V (Proc.devRef .tc main_v44_4) = sel0R (indsR (attR (V (Proc.devRef .tc main_arg0)) (V (Proc.devRef .tc main_arg1)) (V (Proc.devRef .tc main_arg2)) (V (Proc.devRef .tc main_arg3)) (V (Proc.devRef .tc main_arg4)))) := by
  rw [afterL_eq_after_flatten]
  after_reads_simp
  rfl

/-- The counts at entry. -/
theorem pre_cnt : afterL preI V (Proc.devRef .tc main_v44_5) = broadcastInDim S8 ![] bcast_S_S8 (constantI S_ 32 1#32) := by
  rw [afterL_eq_after_flatten]
  after_reads_simp
  rfl

/-- The projected rows after the loop. -/
theorem post_outs : afterL postI V (Proc.devRef .tc main_v108) = normR (gateR (rowsR (V (Proc.devRef .tc main_arg0)) (sortR (V (Proc.devRef .tc main_v44_4)))) (wtsR (V (Proc.devRef .tc main_v34)) (sortR (V (Proc.devRef .tc main_v44_4)))) (V (Proc.devRef .tc main_arg6)) (V (Proc.devRef .tc main_arg7))) (V (Proc.devRef .tc main_arg8)) (V (Proc.devRef .tc main_arg9)) := by
  rw [afterL_eq_after_flatten]
  after_reads_simp
  rfl

/-- The selection after the loop. -/
theorem post_sel : afterL postI V (Proc.devRef .tc main_v109) = broadcastInDim S8x1x64 ![0, 2] bcast_S8x64_S8x1x64_0_2 (sortR (V (Proc.devRef .tc main_v44_4))) := by
  rw [afterL_eq_after_flatten]
  after_reads_simp
  rfl

/-- The weights after the loop. -/
theorem post_wts : afterL postI V (Proc.devRef .tc main_v110) = broadcastInDim S8x1x64 ![0, 2] bcast_S8x64_S8x1x64_0_2 (wtsR (V (Proc.devRef .tc main_v34)) (sortR (V (Proc.devRef .tc main_v44_4)))) := by
  rw [afterL_eq_after_flatten]
  after_reads_simp
  rfl

/-- The attended barcode after the loop. -/
theorem post_bout : afterL postI V (Proc.devRef .tc main_v111) = shapeCast S8x128 (V (Proc.devRef .tc main_v33)) shapeCasts_S8x1x128_S8x128 := by
  rw [afterL_eq_after_flatten]
  after_reads_simp
  rfl

end Cert.ReferenceIdeal.Hand
-- ==== Proof.RefLoop.lean ====
/- The reference's loop: before each trip a batch's selection holds the places kept so far, and after the last all the picks. -/
module

public import proofs.«01_k».proof.Proof.RefKept
public import proofs.«01_k».proof.Proof.RefTrip
public import proofs.«01_k».proof.Proof.RefSort
public import proofs.«01_k».proof.Proof.RefRun

@[expose] public section
set_option maxRecDepth 16384
noncomputable section

namespace Cert.ReferenceIdeal.Hand
open Idealize.ShloMosaic Idealize.ShloMosaic.TcCoe Idealize.SL.Sem Idealize.ShloMosaic.StableHlo
open Idealize.ShloMosaic.Pointwise
open Cert.ReferenceIdeal Cert.ReferenceIdeal.Gen Cert.ReferenceIdeal.Value
open Cert.Spec Cert.Sel

section
variable (att : Fin 8 → Fin 4096 → EReal) (hatt : ∀ b n, mark < att b n) (inds : IA S8x4096) (σ : Fin 8 → Fin 4096 → Fin 4096)
  (hσ : ∀ b, Down (att b) (σ b)) (hinds : ∀ b i, inds (ix2 b i) = BitVec.ofNat 32 (σ b i).val)

/-- What holds before the trip that looks at place `i`. -/
structure Inv (i : ℕ) (V : Valuation τ sig (Elt Ideal)) : Prop where
  inds : V (Proc.devRef .tc main_v44_0) = inds
  places : V (Proc.devRef .tc main_v44_1) = placesR
  pos : V (Proc.devRef .tc main_v44_3) = constantI S_ 32 (BitVec.ofNat 32 i)
  kept : ∀ b : Fin 8, ∃ (c : ℕ) (q : ℕ → Fin 4096), V (Proc.devRef .tc main_v44_5) (ix1 b) = BitVec.ofNat 32 c
    ∧ (∀ k : Fin 64, V (Proc.devRef .tc main_v44_4) (ix2 b k) = BitVec.ofNat 32 (q k.val).val) ∧ Kept mark (att b) (σ b) i c q

include hatt hσ hinds

/-- A trip keeps the invariant. -/
theorem Inv.step {i : ℕ} (hi : i < 4096) {V : Valuation τ sig (Elt Ideal)} (h : Inv att inds σ i V) : Inv att inds σ (i + 1) (STEP V) := by
  classical
  have hcand : ∀ b, res_main_while0b_v113 V (ix2 b 0) = BitVec.ofNat 32 (σ b ⟨i, hi⟩).val := fun b => by
    show candR (V (Proc.devRef .tc main_v44_0)) (V (Proc.devRef .tc main_v44_3)) (ix2 b 0) = _
    rw [h.inds, h.pos]
    exact (cand_at inds b ⟨i, hi⟩).trans (hinds b _)
  have hok : ∀ (b : Fin 8) (c : ℕ) (q : ℕ → Fin 4096), V (Proc.devRef .tc main_v44_5) (ix1 b) = BitVec.ofNat 32 c → c ≤ 64
      → (∀ k : Fin 64, V (Proc.devRef .tc main_v44_4) (ix2 b k) = BitVec.ofNat 32 (q k.val).val)
      → res_main_while0b_v130 V (ix1 b) = BitVec.ofBool (decide (c < 64 ∧ ∀ k < c, ¬ Near (q k) (σ b ⟨i, hi⟩))) := fun b c q h1 h2 h3 => by
    show okR (V (Proc.devRef .tc main_v44_4)) (V (Proc.devRef .tc main_v44_1)) (V (Proc.devRef .tc main_v44_5)) (res_main_while0b_v113 V) (ix1 b) = _
    rw [h.places]
    exact ok_at _ _ _ b c q _ h1 h2 h3 (hcand b)
  refine ⟨(STEP_main_v44_0 V).trans h.inds, (STEP_main_v44_1 V).trans h.places, ?_, fun b => ?_⟩
  · rw [STEP_main_v44_3]
    show addi (V (Proc.devRef .tc main_v44_3)) (constantI S_ 32 1#32) = _
    rw [h.pos]
    funext j
    show BitVec.ofNat 32 i + BitVec.ofNat 32 1 = _
    rw [← BitVec.ofNat_add]
    rfl
  · obtain ⟨c, q, hc, hq, hk⟩ := h.kept b
    have ho := hok b c q hc hk.le hq
    refine ⟨if c < 64 ∧ ∀ k < c, ¬ Near (q k) (σ b ⟨i, hi⟩) then c + 1 else c,
      fun k => if (c < 64 ∧ ∀ k < c, ¬ Near (q k) (σ b ⟨i, hi⟩)) ∧ k = c then σ b ⟨i, hi⟩ else q k, ?_, fun k => ?_, ?_⟩
    · rw [STEP_main_v44_5]
      exact count_at _ b c _ _ ho hc
    · rw [STEP_main_v44_4]
      show nextR (V (Proc.devRef .tc main_v44_4)) (V (Proc.devRef .tc main_v44_1)) (V (Proc.devRef .tc main_v44_5)) (res_main_while0b_v113 V)
        (res_main_while0b_v130 V) (ix2 b k) = _
      rw [h.places]
      exact next_at _ _ _ b c q _ _ _ ho hc hk.le hq (hcand b) k
    · by_cases hP : c < 64 ∧ ∀ k < c, ¬ Near (q k) (σ b ⟨i, hi⟩)
      · rw [if_pos hP]
        refine hk.take (hatt b) (hσ b) hP.1 hi hP.2 (fun k hk => if_neg fun h => absurd h.2 hk.ne) (if_pos ⟨hP, rfl⟩)
      · rw [if_neg hP]
        refine hk.skip hi (fun hc => ?_) (fun k hk => if_neg fun h => absurd h.2 hk.ne)
        by_contra hn
        push Not at hn
        exact hP ⟨hc, hn⟩

/-- After `k` trips the invariant holds at place `k + 1`. -/
theorem Inv.trips {V : Valuation τ sig (Elt Ideal)} (h : Inv att inds σ 1 V) : ∀ k, k ≤ 4095 → Inv att inds σ (k + 1) (STEP^[k] V)
  | 0, _ => h
  | k + 1, hk => by
    rw [Function.iterate_succ_apply']
    exact Inv.step att hatt inds σ hσ hinds (by omega) (Inv.trips h k (by omega))

/-- After all places the selection holds the picks. -/
theorem Inv.picks {V : Valuation τ sig (Elt Ideal)} (h : Inv att inds σ 4096 V) (b : Fin 8) (k : Fin 64) :
    V (Proc.devRef .tc main_v44_4) (ix2 b k) = BitVec.ofNat 32 (pickS (att b) k).val := by
  obtain ⟨c, q, -, hq, hk⟩ := h.kept b
  have hc := hk.done (hσ b)
  rw [hq, hk.eq k.val (by omega)]
  rfl

/-- The selection before the loop, and the invariant at the second place. -/
theorem Inv.start {V : Valuation τ sig (Elt Ideal)} (h0 : V (Proc.devRef .tc main_v44_0) = inds) (h1 : V (Proc.devRef .tc main_v44_1) = placesR)
    (h3 : V (Proc.devRef .tc main_v44_3) = constantI S_ 32 1#32) (h4 : V (Proc.devRef .tc main_v44_4) = sel0R inds)
    (h5 : V (Proc.devRef .tc main_v44_5) = broadcastInDim S8 ![] bcast_S_S8 (constantI S_ 32 1#32)) : Inv att inds σ 1 V := by
  refine ⟨h0, h1, h3, fun b => ⟨1, fun k => if k = 0 then σ b 0 else 0, ?_, fun k => ?_, Kept.first (hatt b) (hσ b) (if_pos rfl)⟩⟩
  · rw [h5]; rfl
  · rw [h4]
    pointwise [sel0R]
    rw [hinds, cmpi_eq_ofNat (b := 0) (by omega) (by omega), select_bool]
    by_cases hk : k.val = 0
    · rw [if_pos hk, if_pos hk]
    · rw [if_neg hk, if_neg hk]; rfl
end

variable (m : (ℓ : Loc nD τ sig) → Buf (Elt Ideal) ℓ) (c : Dev nD)

/-- The reference's attention, of its launch contents. -/
abbrev attM : FA S8x1x4096 := attR (m ((c.tc : Thread nD τ).loc main_arg0)) (m ((c.tc : Thread nD τ).loc main_arg1)) (m ((c.tc : Thread nD τ).loc main_arg2))
  (m ((c.tc : Thread nD τ).loc main_arg3)) (m ((c.tc : Thread nD τ).loc main_arg4))

/-- The selection the loop ends with. -/
theorem end_sel (hatt : ∀ b n, mark < attM m c (ix3 b 0 n)) (b : Fin 8) (k : Fin 64) :
    endContents m c (Proc.devRef .tc main_v44_4) (ix2 b k) = BitVec.ofNat 32 (pickS (fun n => attM m c (ix3 b 0 n)) k).val := by
  choose σ hσ hi using inds_at (attM m c)
  have hs : Inv (fun b n => attM m c (ix3 b 0 n)) (indsR (attM m c)) σ 1 (entryContents preI m c) :=
    Inv.start _ hatt _ σ hσ hi (pre_inds _) (pre_iota _) (pre_pos _) (pre_sel _) (pre_cnt _)
  have he := Inv.picks _ hatt _ σ hσ hi (Inv.trips _ hatt _ σ hσ hi hs 4095 le_rfl) b k
  rw [endContents, after_of_writes_sub _ _ condOps_writes (by decide), atK_agree m c 4095 main_v44_4 (by decide)]
  exact he

/-- The attention after the loop. -/
theorem end_att : endContents m c (Proc.devRef .tc main_v34) = attSqR (attM m c) := by
  rw [endContents, after_of_writes_sub _ _ condOps_writes (by decide), atK_keep m c (by decide +kernel)]
  exact pre_att _

/-- The attended barcode after the loop. -/
theorem end_bout : endContents m c (Proc.devRef .tc main_v33) = boutR (attM m c) (m ((c.tc : Thread nD τ).loc main_arg0)) (m ((c.tc : Thread nD τ).loc main_arg5)) := by
  rw [endContents, after_of_writes_sub _ _ condOps_writes (by decide), atK_keep m c (by decide +kernel)]
  exact pre_bout _

end Cert.ReferenceIdeal.Hand

end
-- ==== Proof.RefAtt.lean ====
/- The reference's attention, attended barcode and normalized rows, entry by entry. -/
module

public import proofs.«01_k».proof.Proof.RefTerms
public import proofs.«01_k».proof.Proof.Reals

@[expose] public section
set_option maxRecDepth 16384
noncomputable section

namespace Cert.ReferenceIdeal.Hand
open Idealize.ShloMosaic Idealize.ShloMosaic.TcCoe Idealize.SL.Sem
open Idealize.ShloMosaic.Pointwise
open Cert.ReferenceIdeal Cert.ReferenceIdeal.Gen
open Cert.Spec

section
variable (x : FA S8x4096x128) (mask : FA S8x4096) (bc : FA S1x1x128) (wq wk wv : FA S128x128) (b : Fin 8)

/-- The padding factor. -/
theorem pad_at (n : Fin 4096) : padR mask (ix3 b 0 n) = padS (mask (ix2 b n)) := by
  pointwise [padR]
  rfl

/-- The scaled and padded logits. -/
theorem logit_at (n : Fin 4096) : logitR x mask bc wq wk (ix3 b 0 n)
    = lgaS (lgS (fun n k => x (ix3 b n k)) (qS (fun k => bc (ix3 0 0 k)) (fun k e => wq (ix2 k e))) (fun k e => wk (ix2 k e)) n) (padS (mask (ix2 b n))) := by
  rw [← pad_at]
  generalize hp : padR mask = p
  unfold logitR
  rw [hp]
  pointwise []
  rw [id_eq]
  pointwise []
  unfold lgaS lgS qS sclS
  simp only [mul_comm (∑ k, bc (ix3 0 0 k) * wq (ix2 k _))]

/-- The exponentials. -/
theorem exp_at (lg : FA S8x1x4096) (n : Fin 4096) : expR lg (ix3 b 0 n) = exS (fun n => lg (ix3 b 0 n)) n := by
  pointwise [expR]
  rw [c_neg_inf, fold_max, max_eq_right bot_le]
  rfl

/-- The shares of the total, times the padding factor. -/
theorem soft_at (ex : FA S8x1x4096) (n : Fin 4096) :
    softR ex mask (ix3 b 0 n) = Ideal.div (ex (ix3 b 0 n)) (∑ j, ex (ix3 b 0 j)) * padS (mask (ix2 b n)) := by
  rw [← pad_at]
  generalize hp : padR mask = p
  unfold softR
  rw [hp]
  pointwise []
  rw [id_eq]

/-- The attention. -/
theorem att_at (n : Fin 4096) : attR x mask bc wq wk (ix3 b 0 n)
    = attW (fun n k => x (ix3 b n k)) (fun n => mask (ix2 b n)) (fun k => bc (ix3 0 0 k)) (fun k e => wq (ix2 k e)) (fun k e => wk (ix2 k e)) n := by
  unfold attR
  rw [soft_at, exp_at]
  simp only [exp_at, logit_at]
  rfl

/-- The attention as a matrix. -/
theorem attSq_at (att : FA S8x1x4096) (n : Fin 4096) : attSqR att (ix2 b n) = att (ix3 b 0 n) := by
  pointwise [attSqR]

/-- The attended barcode. -/
theorem bout_at (att : FA S8x1x4096) (e : Fin 128) : boutR att x wv (ix3 b 0 e)
    = boutS (fun n => att (ix3 b 0 n)) (fun n k => x (ix3 b n k)) (fun k e => wv (ix2 k e)) e := by
  pointwise [boutR]
  rfl
end

section
variable (b : Fin 8) (a : Fin 64)

/-- The gated projection of a row. -/
theorem gate_at (o : FA S8x64x128) (wts : FA S8x64) (g : FA S64x128x128) (w : FA S1x64x128x128) (e : Fin 128) :
    gateR o wts g w (ix3 b a e) = gateS (fun k => o (ix3 b a k)) (fun k e => w (ix4 0 a k e)) (fun k e => g (ix3 a k e)) (wts (ix2 b a)) e := by
  pointwise [gateR, projR]
  rfl

/-- The mean of a row. -/
theorem mean_at (y : FA S8x64x128) : meanR y (ix3 b a 0) = meanS (fun e => y (ix3 b a e)) := by
  pointwise [meanR]
  rfl

/-- A row less its mean. -/
theorem cent_at (y : FA S8x64x128) (e : Fin 128) : centR y (ix3 b a e) = centS (fun e => y (ix3 b a e)) e := by
  pointwise [centR]
  rw [mean_at]
  rfl

/-- The normalized rows. -/
theorem norm_at (y : FA S8x64x128) (ga be : FA S128) (e : Fin 128) :
    normR y ga be (ix3 b a e) = normS (fun e => y (ix3 b a e)) (fun e => ga (ix1 e)) (fun e => be (ix1 e)) e := by
  unfold normR
  generalize hc : centR y = z
  generalize hm : meanR (mulf z z) = v
  have hv : v (ix3 b a 0) = meanS (fun k => centS (fun e => y (ix3 b a e)) k * centS (fun e => y (ix3 b a e)) k) := by
    rw [← hm, mean_at, ← hc]
    congr 1
    funext k
    show centR y _ * centR y _ = _
    rw [cent_at]
  have hz : z (ix3 b a e) = centS (fun e => y (ix3 b a e)) e := by rw [← hc, cent_at]
  pointwise []
  rw [hv, hz]
  rfl
end

end Cert.ReferenceIdeal.Hand

end
-- ==== Proof.RefRows.lean ====
/- The reference's reads at the selected positions: the weights and the rows with their position encoding. -/
module

public import proofs.«01_k».proof.Proof.RefAtt

@[expose] public section
set_option maxRecDepth 16384
noncomputable section

namespace Cert.ReferenceIdeal.Hand
open Idealize.ShloMosaic Idealize.ShloMosaic.TcCoe Idealize.SL.Sem
open Idealize.ShloMosaic.Pointwise
open Cert.ReferenceIdeal Cert.ReferenceIdeal.Gen
open Cert.Spec

/-- The weights' gather at an index. -/
theorem gather_wts (att : FA S8x4096) (w : IVec S8x64x1 32) (b : Fin 8) (a : Fin 64) (u : Fin 4096) (hu : w (ix3 b a 0) = BitVec.ofNat 32 u.val) :
    Host.gather gather_S8x4096_S8x64x1_S8x64_n_1_0_0_1_2_11 att w (ix2 b a) = att (ix2 b u) := by
  unfold Host.gather
  congr 1
  funext k
  refine Fin.ext ?_
  fin_cases k
  · show 0 + b.val + 0 = b.val
    omega
  · show min (w _).toInt.toNat 4095 + 0 + 0 = u.val
    have e : ∀ i, i = ix3 b a 0 → min (w i).toInt.toNat 4095 + 0 + 0 = u.val := by
      rintro i rfl
      rw [hu, toInt_ofNat (by omega)]
      omega
    refine e _ ?_
    funext k
    fin_cases k <;> rfl

/-- The rows' gather at an index. -/
theorem gather_rows (x : FA S8x4096x128) (w : IVec S8x64x1 32) (b : Fin 8) (a : Fin 64) (e : Fin 128) (u : Fin 4096) (hu : w (ix3 b a 0) = BitVec.ofNat 32 u.val) :
    Host.gather gather_S8x4096x128_S8x64x1_S8x64x128_2_1_0_0_1_2_11128 x w (ix3 b a e) = x (ix3 b u e) := by
  unfold Host.gather
  congr 1
  funext k
  refine Fin.ext ?_
  fin_cases k
  · show 0 + b.val + 0 = b.val
    omega
  · show min (w _).toInt.toNat 4095 + 0 + 0 = u.val
    have e : ∀ i, i = ix3 b a 0 → min (w i).toInt.toNat 4095 + 0 + 0 = u.val := by
      rintro i rfl
      rw [hu, toInt_ofNat (by omega)]
      omega
    refine e _ ?_
    funext k
    fin_cases k <;> rfl
  · show 0 + 0 + e.val = e.val
    omega

section
variable (s : IA S8x64) (b : Fin 8) (a : Fin 64) (u : Fin 4096) (hs : s (ix2 b a) = BitVec.ofNat 32 u.val)
include hs

/-- A position in range is not moved. -/
theorem wrap_at : wrapR s (ix2 b a) = BitVec.ofNat 32 u.val := by
  pointwise [wrapR]
  rw [hs]
  have h0 : IntOp.cmpi .slt (BitVec.ofNat 32 u.val) 0#32 = BitVec.ofBool (decide (u.val < 0)) := by
    show BitVec.ofBool _ = _
    rw [slt_ofNat (b := 0) (by omega) (by omega)]
  rw [h0, select_bool, if_neg (Nat.not_lt_zero _)]

/-- The weight at a selected position. -/
theorem wts_at (att : FA S8x4096) : wtsR att s (ix2 b a) = att (ix2 b u) := by
  have hw := wrap_at s b a u hs
  unfold wtsR
  generalize hg : wrapR s = w
  rw [hg] at hw
  pointwise []
  have hge : IntOp.cmpi .sge (w (ix2 b a)) 0#32 = 1#1 := by
    rw [hw]
    show BitVec.ofBool ((BitVec.ofNat 32 0).sle _) = _
    rw [ofNat_sle (by omega), toInt_ofNat (by omega)]
    simp
  have hle : IntOp.cmpi .sle (w (ix2 b a)) 4095#32 = 1#1 := by
    rw [hw]
    show BitVec.ofBool (BitVec.sle _ (BitVec.ofNat 32 4095)) = _
    rw [sle_ofNat (by omega), toInt_ofNat (by omega)]
    rw [decide_eq_true (by omega)]
    rfl
  rw [hge, hle, gather_wts att _ b a u (by pointwise []; exact hw)]
  rfl

/-- The row at a selected position, with its encoding. -/
theorem rows_at (x : FA S8x4096x128) (e : Fin 128) : rowsR x s (ix3 b a e) = rowS (fun n k => x (ix3 b n k)) u e := by
  have hw := wrap_at s b a u hs
  unfold rowsR
  generalize hg : wrapR s = w
  rw [hg] at hw
  pointwise []
  rw [hs, gather_rows x _ b a e u (by pointwise []; exact hw), sitofp_ofNat (by omega), sitofp_ofNat (by omega)]
  rfl
end

end Cert.ReferenceIdeal.Hand

end
-- ==== Proof.RefOut.lean ====
/- The reference's four results as functions of its arguments. -/
module

public import proofs.«01_k».proof.Proof.RefLoop
public import proofs.«01_k».proof.Proof.RefRows

@[expose] public section
set_option maxRecDepth 16384
noncomputable section

namespace Cert.ReferenceIdeal.Hand
open Idealize.ShloMosaic Idealize.ShloMosaic.TcCoe Idealize.SL.Sem Idealize.ShloMosaic.StableHlo
open Idealize.ShloMosaic.Pointwise
open Cert.ReferenceIdeal Cert.ReferenceIdeal.Gen Cert.ReferenceIdeal.Value
open Cert.Spec Cert.Sel

variable (m : (ℓ : Loc nD τ sig) → Buf (Elt Ideal) ℓ) (c : Dev nD)

/-- The attention of batch `b`, of the launch contents. -/
abbrev attB (b : Fin 8) : Fin 4096 → EReal :=
  attW (fun n k => m (c.tc.loc main_arg0) (ix3 b n k)) (fun n => m (c.tc.loc main_arg1) (ix2 b n)) (fun k => m (c.tc.loc main_arg2) (ix3 0 0 k))
    (fun k e => m (c.tc.loc main_arg3) (ix2 k e)) (fun k e => m (c.tc.loc main_arg4) (ix2 k e))

theorem attM_at (b : Fin 8) : (fun n => attM m c (ix3 b 0 n)) = attB m c b := funext fun n => att_at _ _ _ _ _ b n

variable (hatt : ∀ b n, mark < attB m c b n)
include hatt

/-- The sorted selection after the loop. -/
theorem sorted_at (b : Fin 8) (a : Fin 64) :
    sortR (endContents m c (Proc.devRef .tc main_v44_4)) (ix2 b a) = BitVec.ofNat 32 (selS (attB m c b) a).val := by
  have h : ∀ b n, mark < attM m c (ix3 b 0 n) := fun b n => by
    have := congrFun (attM_at m c b) n
    exact (hatt b n).trans_eq this.symm
  refine sort_at _ b (pickS (attB m c b)) (pick_inj (hatt b)) (fun k => ?_) a
  rw [end_sel m c h b k, attM_at]

/-- The weights after the loop. -/
theorem weights_at (b : Fin 8) (a : Fin 64) :
    wtsR (endContents m c (Proc.devRef .tc main_v34)) (sortR (endContents m c (Proc.devRef .tc main_v44_4))) (ix2 b a)
      = attB m c b (selS (attB m c b) a) := by
  rw [wts_at _ b a _ (sorted_at m c hatt b a), end_att, attSq_at, ← attM_at]

/-- The normalized rows. -/
theorem fin_rows : finalContents condOps preI bodyI postI 4095 m c (Proc.devRef .tc main_v108)
    = fun j => rowsW (attB m c (j 0)) (fun n k => m (c.tc.loc main_arg0) (ix3 (j 0) n k)) (fun a k e => m (c.tc.loc main_arg7) (ix4 0 a k e))
      (fun a k e => m (c.tc.loc main_arg6) (ix3 a k e)) (fun e => m (c.tc.loc main_arg8) (ix1 e)) (fun e => m (c.tc.loc main_arg9) (ix1 e)) (j 1) (j 2) := by
  refine (post_outs (endContents m c)).trans ?_
  funext j
  idx_vars j
  refine (norm_at _ _ _ _ _ _).trans ?_
  simp only [gate_at, weights_at m c hatt]
  simp only [rows_at _ _ _ _ (sorted_at m c hatt _ _)]
  rw [end_arg m c (r := main_arg0) (by decide +kernel) (by decide +kernel), end_arg m c (r := main_arg6) (by decide +kernel) (by decide +kernel),
    end_arg m c (r := main_arg7) (by decide +kernel) (by decide +kernel), end_arg m c (r := main_arg8) (by decide +kernel) (by decide +kernel),
    end_arg m c (r := main_arg9) (by decide +kernel) (by decide +kernel)]
  rfl

/-- The selected positions. -/
theorem fin_sel : finalContents condOps preI bodyI postI 4095 m c (Proc.devRef .tc main_v109)
    = fun j => BitVec.ofNat 32 (selS (attB m c (j 0)) (j 2)).val := by
  refine (post_sel (endContents m c)).trans ?_
  funext j
  idx_vars j
  refine Eq.trans ?_ (sorted_at m c hatt _ _)
  pointwise []

/-- The selected weights. -/
theorem fin_wts : finalContents condOps preI bodyI postI 4095 m c (Proc.devRef .tc main_v110)
    = fun j => attB m c (j 0) (selS (attB m c (j 0)) (j 2)) := by
  refine (post_wts (endContents m c)).trans ?_
  funext j
  idx_vars j
  refine Eq.trans ?_ (weights_at m c hatt _ _)
  pointwise []

omit hatt in
/-- The attended barcode. -/
theorem fin_bout : finalContents condOps preI bodyI postI 4095 m c (Proc.devRef .tc main_v111)
    = fun j => boutS (attB m c (j 0)) (fun n k => m (c.tc.loc main_arg0) (ix3 (j 0) n k)) (fun k e => m (c.tc.loc main_arg5) (ix2 k e)) (j 1) := by
  refine (post_bout (endContents m c)).trans ?_
  rw [end_bout]
  funext j
  idx_vars j
  pointwise []
  rw [bout_at, attM_at]

end Cert.ReferenceIdeal.Hand

end
-- ==== Proof.Results.lean ====
/- The four results as functions of the arguments' contents. -/
module

public import proofs.«01_k».proof.Proof.Reals

@[expose] public section
noncomputable section

namespace Cert.Spec
open Idealize.ShloMosaic
open Idealize.ShloMosaic.Pointwise

/-- The contents of an array of real numbers, infinities included. -/
abbrev Arr (s : Shape) := s.Idx → EReal

section
variable (x : Arr ⟨3, ![8, 4096, 128]⟩) (mk : Arr ⟨2, ![8, 4096]⟩) (bc : Arr ⟨3, ![1, 1, 128]⟩) (wq wk wv : Arr ⟨2, ![128, 128]⟩)
  (g : Arr ⟨3, ![64, 128, 128]⟩) (w : Arr ⟨4, ![1, 64, 128, 128]⟩) (ga be : Arr ⟨1, ![128]⟩)

/-- The attention of batch `b`. -/
def attA (b : Fin 8) : Fin 4096 → EReal :=
  attW (fun n k => x (ix3 b n k)) (fun n => mk (ix2 b n)) (fun k => bc (ix3 0 0 k)) (fun k e => wq (ix2 k e)) (fun k e => wk (ix2 k e))
/-- The first result: the selected rows, projected and normalized. -/
def rowsA : Arr ⟨3, ![8, 64, 128]⟩ := fun j =>
  rowsW (attA x mk bc wq wk (j 0)) (fun n k => x (ix3 (j 0) n k)) (fun a k e => w (ix4 0 a k e)) (fun a k e => g (ix3 a k e)) (fun e => ga (ix1 e))
    (fun e => be (ix1 e)) (j 1) (j 2)
/-- The second result: the selected positions. -/
def selA : IVec ⟨3, ![8, 1, 64]⟩ 32 := fun j => BitVec.ofNat 32 (selS (attA x mk bc wq wk (j 0)) (j 2)).val
/-- The third result: the attention there. -/
def wtsA : Arr ⟨3, ![8, 1, 64]⟩ := fun j => attA x mk bc wq wk (j 0) (selS (attA x mk bc wq wk (j 0)) (j 2))
/-- The fourth result: the attended barcode. -/
def boutA : Arr ⟨2, ![8, 128]⟩ := fun j => boutS (attA x mk bc wq wk (j 0)) (fun n k => x (ix3 (j 0) n k)) (fun k e => wv (ix2 k e)) (j 1)
end

end Cert.Spec

end
-- ==== Proof.Same.lean ====
/- The two programs leave the same results: from equal arguments each of the kernel's four result arrays is the reference's. -/
module

public import proofs.«01_k».proof.Proof.PreReal
public import proofs.«01_k».proof.Proof.RefOut
public import proofs.«01_k».proof.Proof.Results

@[expose] public section
set_option maxRecDepth 16384
noncomputable section

namespace Cert.KernelIdeal.Hand
open Idealize.ShloMosaic Idealize.ShloMosaic.TcCoe Idealize.SL.Sem
open Cert.KernelIdeal Cert.KernelIdeal.Gen Cert.Spec

variable (m : (ℓ : Loc nD τ sig) → Buf (Elt Ideal) ℓ) (c : Dev nD) (h : Reals m c)
include h

theorem rows_eq : (dats m 0 c).arrAt 10 cfg0.N = rowsA (m (c.tc.loc main_arg0)) (m (c.tc.loc main_arg1)) (m (c.tc.loc main_arg2)) (m (c.tc.loc main_arg3))
    (m (c.tc.loc main_arg4)) (m (c.tc.loc main_arg6)) (m (c.tc.loc main_arg7)) (m (c.tc.loc main_arg8)) (m (c.tc.loc main_arg9)) := arr10 m c h
theorem sel_eq : (dats m 0 c).arrAt 11 cfg0.N = selA (m (c.tc.loc main_arg0)) (m (c.tc.loc main_arg1)) (m (c.tc.loc main_arg2)) (m (c.tc.loc main_arg3))
    (m (c.tc.loc main_arg4)) := arr11 m c h
theorem wts_eq : (dats m 0 c).arrAt 12 cfg0.N = wtsA (m (c.tc.loc main_arg0)) (m (c.tc.loc main_arg1)) (m (c.tc.loc main_arg2)) (m (c.tc.loc main_arg3))
    (m (c.tc.loc main_arg4)) := arr12 m c h
theorem bout_eq : (dats m 0 c).arrAt 13 cfg0.N = boutA (m (c.tc.loc main_arg0)) (m (c.tc.loc main_arg1)) (m (c.tc.loc main_arg2)) (m (c.tc.loc main_arg3))
    (m (c.tc.loc main_arg4)) (m (c.tc.loc main_arg5)) := arr13 m c h
/-- Every score is above the mark. -/
theorem mark_lt_att (b : Fin 8) (n : Fin 4096) : mark < attA (m (c.tc.loc main_arg0)) (m (c.tc.loc main_arg1)) (m (c.tc.loc main_arg2)) (m (c.tc.loc main_arg3))
    (m (c.tc.loc main_arg4)) b n := mark_lt_attW (h.x b) h.bc h.wq h.wk n

end Cert.KernelIdeal.Hand

namespace Cert.ReferenceIdeal.Hand
open Idealize.ShloMosaic Idealize.ShloMosaic.TcCoe Idealize.SL.Sem Idealize.ShloMosaic.StableHlo
open Cert.ReferenceIdeal Cert.ReferenceIdeal.Gen Cert.ReferenceIdeal.Value Cert.Spec

variable (m : (ℓ : Loc nD τ sig) → Buf (Elt Ideal) ℓ) (c : Dev nD)
  (x : Arr ⟨3, ![8, 4096, 128]⟩) (mk : Arr ⟨2, ![8, 4096]⟩) (bc : Arr ⟨3, ![1, 1, 128]⟩) (wq wk wv : Arr ⟨2, ![128, 128]⟩)
  (g : Arr ⟨3, ![64, 128, 128]⟩) (w : Arr ⟨4, ![1, 64, 128, 128]⟩) (ga be : Arr ⟨1, ![128]⟩)
  (h0 : m (c.tc.loc main_arg0) = x) (h1 : m (c.tc.loc main_arg1) = mk) (h2 : m (c.tc.loc main_arg2) = bc) (h3 : m (c.tc.loc main_arg3) = wq)
  (h4 : m (c.tc.loc main_arg4) = wk)
include h0 h1 h2 h3 h4

theorem bout_eq (h5 : m (c.tc.loc main_arg5) = wv) :
    finalContents condOps preI bodyI postI 4095 m c (Proc.devRef .tc main_v111) = boutA x mk bc wq wk wv := by
  subst h0 h1 h2 h3 h4 h5
  exact fin_bout m c

variable (hm : ∀ b n, mark < attA x mk bc wq wk b n)
include hm

theorem rows_eq (h6 : m (c.tc.loc main_arg6) = g) (h7 : m (c.tc.loc main_arg7) = w) (h8 : m (c.tc.loc main_arg8) = ga) (h9 : m (c.tc.loc main_arg9) = be) :
    finalContents condOps preI bodyI postI 4095 m c (Proc.devRef .tc main_v108) = rowsA x mk bc wq wk g w ga be := by
  subst h0 h1 h2 h3 h4 h6 h7 h8 h9
  exact fin_rows m c hm
theorem sel_eq : finalContents condOps preI bodyI postI 4095 m c (Proc.devRef .tc main_v109) = selA x mk bc wq wk := by
  subst h0 h1 h2 h3 h4
  exact fin_sel m c hm
theorem wts_eq : finalContents condOps preI bodyI postI 4095 m c (Proc.devRef .tc main_v110) = wtsA x mk bc wq wk := by
  subst h0 h1 h2 h3 h4
  exact fin_wts m c hm

end Cert.ReferenceIdeal.Hand

namespace Cert.Proof
open Idealize.ShloMosaic Idealize.ShloMosaic.TcCoe Idealize.SL.Sem Idealize.ShloMosaic.StableHlo
open Cert.Spec

/-- The kernel and the reference compute the same results wherever the inputs are real numbers. -/
theorem same : Cert.algebraic_KernelIdeal_ReferenceIdeal_pre_finite_inputs := by
  intro m g m' g' hpre hargs
  have hr := fun c => Cert.KernelIdeal.Hand.reals_of_pre m hpre c
  refine ⟨_, _, _, _, Cert.KernelIdeal.Value.run_blocks m g, (θ_run Cert.ReferenceIdeal.defs _ _).mono (fun r h c => ?_) (Cert.ReferenceIdeal.Value.run_fold m' g')⟩
  obtain ⟨h0, h1, h2, h3, h4, h5, h6, h7, h8, h9⟩ := hargs c
  have hm := Cert.KernelIdeal.Hand.mark_lt_att m c (hr c)
  refine ⟨?_, ?_, ?_, ?_, Cert.ReferenceIdeal.Hand.args_kept m' h c⟩
  · exact (h c Cert.ReferenceIdeal.main_v108 rfl).trans
      ((Cert.ReferenceIdeal.Hand.rows_eq m' c _ _ _ _ _ _ _ _ _ h0 h1 h2 h3 h4 hm h6 h7 h8 h9).trans (Cert.KernelIdeal.Hand.rows_eq m c (hr c)).symm)
  · exact (h c Cert.ReferenceIdeal.main_v109 rfl).trans
      ((Cert.ReferenceIdeal.Hand.sel_eq m' c _ _ _ _ _ h0 h1 h2 h3 h4 hm).trans (Cert.KernelIdeal.Hand.sel_eq m c (hr c)).symm)
  · exact (h c Cert.ReferenceIdeal.main_v110 rfl).trans
      ((Cert.ReferenceIdeal.Hand.wts_eq m' c _ _ _ _ _ h0 h1 h2 h3 h4 hm).trans (Cert.KernelIdeal.Hand.wts_eq m c (hr c)).symm)
  · exact (h c Cert.ReferenceIdeal.main_v111 rfl).trans
      ((Cert.ReferenceIdeal.Hand.bout_eq m' c _ _ _ _ _ _ h0 h1 h2 h3 h4 h5).trans (Cert.KernelIdeal.Hand.bout_eq m c (hr c)).symm)

end Cert.Proof

end
-- ==== Proof.lean ====
/- The proof of the certificate's claim: the three frames, the ideal form of the kernel, and the equality of the kernel's
   results with the reference's wherever the inputs are finite. -/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Same
public import Idealize.ShloMosaic.Adequacy
public import Idealize.ShloMosaic.Init

@[expose] public section

noncomputable section

namespace Cert.Proof

open Idealize.ShloMosaic Idealize.SL.Sem Cert.Kernel

/-- Everything the statement states. -/
theorem claim : Cert.Claim :=
  ⟨Cert.Kernel.Gen.facts, Cert.KernelIdeal.Gen.facts, Cert.ReferenceIdeal.Gen.facts, Cert.Pre_finite_inputs.Gen.facts,
    fun m ρ _ => Cert.Kernel.Gen.frame m ρ, fun m ρ _ => Cert.KernelIdeal.Gen.frame m ρ, fun m ρ _ => Cert.KernelIdeal.Gen.frame m ρ,
    Cert.ReferenceIdeal.Hand.quiescent, fun m ρ _ => Cert.ReferenceIdeal.Hand.quiescent m ρ trivial, trivial, same⟩

end Cert.Proof

end
